-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1024]⟩ ⟨2, ![2048, 1024]⟩ (Layout.meshBlock [2, 2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S1024x1024 : Shape := ⟨2, ![1024, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) (main_arg2 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_x_ReferenceIdeal.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S2048x1024 .f32) (main_arg2 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S1024 : Shape := ⟨1, ![1024]⟩
abbrev S_ : Shape := ⟨0, ![]⟩
abbrev S256x1024 : Shape := ⟨2, ![256, 1024]⟩
abbrev S2x1024 : Shape := ⟨2, ![2, 1024]⟩
abbrev S8x2x1024 : Shape := ⟨3, ![8, 2, 1024]⟩
abbrev S8 : Shape := ⟨1, ![8]⟩
abbrev S256 : Shape := ⟨1, ![256]⟩
abbrev S256x1 : Shape := ⟨2, ![256, 1]⟩
abbrev S1x1024 : Shape := ⟨2, ![1, 1024]⟩
abbrev S1 : Shape := ⟨1, ![1]⟩
abbrev S1x2x1024 : Shape := ⟨3, ![1, 2, 1024]⟩

abbrev nBuf : Space → Nat
  | .hbm => 35
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S256x1024, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S256x1024, .f32⟩
  | .hbm, ⟨34, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S2x1024, .f32⟩
  | .local _ .vmem, ⟨3, _⟩ => ⟨S2x1024, .f32⟩
  | .local _ .vmem, ⟨4, _⟩ => ⟨S8x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_c_5 : Ref sig .tc := ⟨.hbm, 20, rfl⟩
abbrev main_v12 : Ref sig .tc := ⟨.hbm, 21, rfl⟩
abbrev main_c_6 : Ref sig .tc := ⟨.hbm, 22, rfl⟩
abbrev main_v13 : Ref sig .tc := ⟨.hbm, 23, rfl⟩
abbrev main_v14 : Ref sig .tc := ⟨.hbm, 24, rfl⟩
abbrev main_c_7 : Ref sig .tc := ⟨.hbm, 25, rfl⟩
abbrev main_v15 : Ref sig .tc := ⟨.hbm, 26, rfl⟩
abbrev main_c_8 : Ref sig .tc := ⟨.hbm, 27, rfl⟩
abbrev main_v16 : Ref sig .tc := ⟨.hbm, 28, rfl⟩
abbrev main_c_9 : Ref sig .tc := ⟨.hbm, 29, rfl⟩
abbrev main_v17 : Ref sig .tc := ⟨.hbm, 30, rfl⟩
abbrev main_v18 : Ref sig .tc := ⟨.hbm, 31, rfl⟩
abbrev main_c_10 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32 : BitVec 32 := 0#32
  let v14 : BitVec 1 := Scalar.cmpi .ne v12 c0_i32
  let v15 : BitVec 32 := Scalar.extui v14
  let c0_i32_5 : BitVec 32 := 0#32
  let v16 : BitVec 1 := Scalar.cmpi .ne v15 c0_i32_5
  v16

def k0_dev1 : Nat :=
  let c0_i32_116 : BitVec 32 := 0#32
  let c0_i32_112 : BitVec 32 := 0#32
  let c4_i32_115 : BitVec 32 := 4#32
  let v126 : BitVec 32 := Scalar.muli c0_i32_112 c4_i32_115
  let v127 : BitVec 32 := Scalar.addi c0_i32_116 v126
  let c0_i32_113 : BitVec 32 := 0#32
  let c2_i32_117 : BitVec 32 := 2#32
  let v128 : BitVec 32 := Scalar.muli c0_i32_113 c2_i32_117
  let v129 : BitVec 32 := Scalar.addi v127 v128
  let c0_i32_114 : BitVec 32 := 0#32
  let c1_i32_118 : BitVec 32 := 1#32
  let v130 : BitVec 32 := Scalar.muli c0_i32_114 c1_i32_118
  let v131 : BitVec 32 := Scalar.addi v129 v130
  v131.toNat
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_6 : BitVec 32 := 1#32
  let v17 : BitVec 1 := Scalar.cmpi .ne v12 c1_i32_6
  let v18 : BitVec 32 := Scalar.extui v17
  let c0_i32_7 : BitVec 32 := 0#32
  let v19 : BitVec 1 := Scalar.cmpi .ne v18 c0_i32_7
  v19

def k0_dev2 : Nat :=
  let c0_i32_116 : BitVec 32 := 0#32
  let c0_i32_112 : BitVec 32 := 0#32
  let c4_i32_115 : BitVec 32 := 4#32
  let v126 : BitVec 32 := Scalar.muli c0_i32_112 c4_i32_115
  let v127 : BitVec 32 := Scalar.addi c0_i32_116 v126
  let c0_i32_113 : BitVec 32 := 0#32
  let c2_i32_117 : BitVec 32 := 2#32
  let v128 : BitVec 32 := Scalar.muli c0_i32_113 c2_i32_117
  let v129 : BitVec 32 := Scalar.addi v127 v128
  let c1_i32_114 : BitVec 32 := 1#32
  let c1_i32_118 : BitVec 32 := 1#32
  let v130 : BitVec 32 := Scalar.muli c1_i32_114 c1_i32_118
  let v131 : BitVec 32 := Scalar.addi v129 v130
  v131.toNat
def k0_cond3 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_8 : BitVec 32 := 2#32
  let v20 : BitVec 1 := Scalar.cmpi .ne v12 c2_i32_8
  let v21 : BitVec 32 := Scalar.extui v20
  let c0_i32_9 : BitVec 32 := 0#32
  let v22 : BitVec 1 := Scalar.cmpi .ne v21 c0_i32_9
  v22

def k0_dev3 : Nat :=
  let c0_i32_116 : BitVec 32 := 0#32
  let c0_i32_112 : BitVec 32 := 0#32
  let c4_i32_115 : BitVec 32 := 4#32
  let v126 : BitVec 32 := Scalar.muli c0_i32_112 c4_i32_115
  let v127 : BitVec 32 := Scalar.addi c0_i32_116 v126
  let c1_i32_113 : BitVec 32 := 1#32
  let c2_i32_117 : BitVec 32 := 2#32
  let v128 : BitVec 32 := Scalar.muli c1_i32_113 c2_i32_117
  let v129 : BitVec 32 := Scalar.addi v127 v128
  let c0_i32_114 : BitVec 32 := 0#32
  let c1_i32_118 : BitVec 32 := 1#32
  let v130 : BitVec 32 := Scalar.muli c0_i32_114 c1_i32_118
  let v131 : BitVec 32 := Scalar.addi v129 v130
  v131.toNat
def k0_cond4 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32 : BitVec 32 := 3#32
  let v23 : BitVec 1 := Scalar.cmpi .ne v12 c3_i32
  let v24 : BitVec 32 := Scalar.extui v23
  let c0_i32_10 : BitVec 32 := 0#32
  let v25 : BitVec 1 := Scalar.cmpi .ne v24 c0_i32_10
  v25

def k0_dev4 : Nat :=
  let c0_i32_116 : BitVec 32 := 0#32
  let c0_i32_112 : BitVec 32 := 0#32
  let c4_i32_115 : BitVec 32 := 4#32
  let v126 : BitVec 32 := Scalar.muli c0_i32_112 c4_i32_115
  let v127 : BitVec 32 := Scalar.addi c0_i32_116 v126
  let c1_i32_113 : BitVec 32 := 1#32
  let c2_i32_117 : BitVec 32 := 2#32
  let v128 : BitVec 32 := Scalar.muli c1_i32_113 c2_i32_117
  let v129 : BitVec 32 := Scalar.addi v127 v128
  let c1_i32_114 : BitVec 32 := 1#32
  let c1_i32_118 : BitVec 32 := 1#32
  let v130 : BitVec 32 := Scalar.muli c1_i32_114 c1_i32_118
  let v131 : BitVec 32 := Scalar.addi v129 v130
  v131.toNat
def k0_cond5 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_11 : BitVec 32 := 4#32
  let v26 : BitVec 1 := Scalar.cmpi .ne v12 c4_i32_11
  let v27 : BitVec 32 := Scalar.extui v26
  let c0_i32_12 : BitVec 32 := 0#32
  let v28 : BitVec 1 := Scalar.cmpi .ne v27 c0_i32_12
  v28

def k0_dev5 : Nat :=
  let c0_i32_116 : BitVec 32 := 0#32
  let c1_i32_112 : BitVec 32 := 1#32
  let c4_i32_115 : BitVec 32 := 4#32
  let v126 : BitVec 32 := Scalar.muli c1_i32_112 c4_i32_115
  let v127 : BitVec 32 := Scalar.addi c0_i32_116 v126
  let c0_i32_113 : BitVec 32 := 0#32
  let c2_i32_117 : BitVec 32 := 2#32
  let v128 : BitVec 32 := Scalar.muli c0_i32_113 c2_i32_117
  let v129 : BitVec 32 := Scalar.addi v127 v128
  let c0_i32_114 : BitVec 32 := 0#32
  let c1_i32_118 : BitVec 32 := 1#32
  let v130 : BitVec 32 := Scalar.muli c0_i32_114 c1_i32_118
  let v131 : BitVec 32 := Scalar.addi v129 v130
  v131.toNat
def k0_cond6 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32 : BitVec 32 := 5#32
  let v29 : BitVec 1 := Scalar.cmpi .ne v12 c5_i32
  let v30 : BitVec 32 := Scalar.extui v29
  let c0_i32_13 : BitVec 32 := 0#32
  let v31 : BitVec 1 := Scalar.cmpi .ne v30 c0_i32_13
  v31

def k0_dev6 : Nat :=
  let c0_i32_116 : BitVec 32 := 0#32
  let c1_i32_112 : BitVec 32 := 1#32
  let c4_i32_115 : BitVec 32 := 4#32
  let v126 : BitVec 32 := Scalar.muli c1_i32_112 c4_i32_115
  let v127 : BitVec 32 := Scalar.addi c0_i32_116 v126
  let c0_i32_113 : BitVec 32 := 0#32
  let c2_i32_117 : BitVec 32 := 2#32
  let v128 : BitVec 32 := Scalar.muli c0_i32_113 c2_i32_117
  let v129 : BitVec 32 := Scalar.addi v127 v128
  let c1_i32_114 : BitVec 32 := 1#32
  let c1_i32_118 : BitVec 32 := 1#32
  let v130 : BitVec 32 := Scalar.muli c1_i32_114 c1_i32_118
  let v131 : BitVec 32 := Scalar.addi v129 v130
  v131.toNat
def k0_cond7 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32 : BitVec 32 := 6#32
  let v32 : BitVec 1 := Scalar.cmpi .ne v12 c6_i32
  let v33 : BitVec 32 := Scalar.extui v32
  let c0_i32_14 : BitVec 32 := 0#32
  let v34 : BitVec 1 := Scalar.cmpi .ne v33 c0_i32_14
  v34

def k0_dev7 : Nat :=
  let c0_i32_116 : BitVec 32 := 0#32
  let c1_i32_112 : BitVec 32 := 1#32
  let c4_i32_115 : BitVec 32 := 4#32
  let v126 : BitVec 32 := Scalar.muli c1_i32_112 c4_i32_115
  let v127 : BitVec 32 := Scalar.addi c0_i32_116 v126
  let c1_i32_113 : BitVec 32 := 1#32
  let c2_i32_117 : BitVec 32 := 2#32
  let v128 : BitVec 32 := Scalar.muli c1_i32_113 c2_i32_117
  let v129 : BitVec 32 := Scalar.addi v127 v128
  let c0_i32_114 : BitVec 32 := 0#32
  let c1_i32_118 : BitVec 32 := 1#32
  let v130 : BitVec 32 := Scalar.muli c0_i32_114 c1_i32_118
  let v131 : BitVec 32 := Scalar.addi v129 v130
  v131.toNat
def k0_cond8 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32 : BitVec 32 := 7#32
  let v35 : BitVec 1 := Scalar.cmpi .ne v12 c7_i32
  let v36 : BitVec 32 := Scalar.extui v35
  let c0_i32_15 : BitVec 32 := 0#32
  let v37 : BitVec 1 := Scalar.cmpi .ne v36 c0_i32_15
  v37

def k0_dev8 : Nat :=
  let c0_i32_116 : BitVec 32 := 0#32
  let c1_i32_112 : BitVec 32 := 1#32
  let c4_i32_115 : BitVec 32 := 4#32
  let v126 : BitVec 32 := Scalar.muli c1_i32_112 c4_i32_115
  let v127 : BitVec 32 := Scalar.addi c0_i32_116 v126
  let c1_i32_113 : BitVec 32 := 1#32
  let c2_i32_117 : BitVec 32 := 2#32
  let v128 : BitVec 32 := Scalar.muli c1_i32_113 c2_i32_117
  let v129 : BitVec 32 := Scalar.addi v127 v128
  let c1_i32_114 : BitVec 32 := 1#32
  let c1_i32_118 : BitVec 32 := 1#32
  let v130 : BitVec 32 := Scalar.muli c1_i32_114 c1_i32_118
  let v131 : BitVec 32 := Scalar.addi v129 v130
  v131.toNat
def k0_cond9 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_29 : BitVec 32 := 0#32
  let v69 : BitVec 1 := Scalar.cmpi .ne v12 c0_i32_29
  let v70 : BitVec 32 := Scalar.extui v69
  let c0_i32_31 : BitVec 32 := 0#32
  let v71 : BitVec 1 := Scalar.cmpi .ne v70 c0_i32_31
  v71

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off2 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev9 : Nat :=
  let c0_i32_115 : BitVec 32 := 0#32
  let c0_i32_111 : BitVec 32 := 0#32
  let c4_i32_114 : BitVec 32 := 4#32
  let v126 : BitVec 32 := Scalar.muli c0_i32_111 c4_i32_114
  let v127 : BitVec 32 := Scalar.addi c0_i32_115 v126
  let c0_i32_112 : BitVec 32 := 0#32
  let c2_i32_116 : BitVec 32 := 2#32
  let v128 : BitVec 32 := Scalar.muli c0_i32_112 c2_i32_116
  let v129 : BitVec 32 := Scalar.addi v127 v128
  let c0_i32_113 : BitVec 32 := 0#32
  let c1_i32_117 : BitVec 32 := 1#32
  let v130 : BitVec 32 := Scalar.muli c0_i32_113 c1_i32_117
  let v131 : BitVec 32 := Scalar.addi v129 v130
  v131.toNat
def k0_cond10 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_32 : BitVec 32 := 1#32
  let v72 : BitVec 1 := Scalar.cmpi .ne v12 c1_i32_32
  let v73 : BitVec 32 := Scalar.extui v72
  let c0_i32_34 : BitVec 32 := 0#32
  let v74 : BitVec 1 := Scalar.cmpi .ne v73 c0_i32_34
  v74

def k0_off3 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off4 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev10 : Nat :=
  let c0_i32_115 : BitVec 32 := 0#32
  let c0_i32_111 : BitVec 32 := 0#32
  let c4_i32_114 : BitVec 32 := 4#32
  let v126 : BitVec 32 := Scalar.muli c0_i32_111 c4_i32_114
  let v127 : BitVec 32 := Scalar.addi c0_i32_115 v126
  let c0_i32_112 : BitVec 32 := 0#32
  let c2_i32_116 : BitVec 32 := 2#32
  let v128 : BitVec 32 := Scalar.muli c0_i32_112 c2_i32_116
  let v129 : BitVec 32 := Scalar.addi v127 v128
  let c1_i32_113 : BitVec 32 := 1#32
  let c1_i32_117 : BitVec 32 := 1#32
  let v130 : BitVec 32 := Scalar.muli c1_i32_113 c1_i32_117
  let v131 : BitVec 32 := Scalar.addi v129 v130
  v131.toNat
def k0_cond11 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_35 : BitVec 32 := 2#32
  let v75 : BitVec 1 := Scalar.cmpi .ne v12 c2_i32_35
  let v76 : BitVec 32 := Scalar.extui v75
  let c0_i32_37 : BitVec 32 := 0#32
  let v77 : BitVec 1 := Scalar.cmpi .ne v76 c0_i32_37
  v77

def k0_off5 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off6 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev11 : Nat :=
  let c0_i32_115 : BitVec 32 := 0#32
  let c0_i32_111 : BitVec 32 := 0#32
  let c4_i32_114 : BitVec 32 := 4#32
  let v126 : BitVec 32 := Scalar.muli c0_i32_111 c4_i32_114
  let v127 : BitVec 32 := Scalar.addi c0_i32_115 v126
  let c1_i32_112 : BitVec 32 := 1#32
  let c2_i32_116 : BitVec 32 := 2#32
  let v128 : BitVec 32 := Scalar.muli c1_i32_112 c2_i32_116
  let v129 : BitVec 32 := Scalar.addi v127 v128
  let c0_i32_113 : BitVec 32 := 0#32
  let c1_i32_117 : BitVec 32 := 1#32
  let v130 : BitVec 32 := Scalar.muli c0_i32_113 c1_i32_117
  let v131 : BitVec 32 := Scalar.addi v129 v130
  v131.toNat
def k0_cond12 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_38 : BitVec 32 := 3#32
  let v78 : BitVec 1 := Scalar.cmpi .ne v12 c3_i32_38
  let v79 : BitVec 32 := Scalar.extui v78
  let c0_i32_40 : BitVec 32 := 0#32
  let v80 : BitVec 1 := Scalar.cmpi .ne v79 c0_i32_40
  v80

def k0_off7 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off8 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev12 : Nat :=
  let c0_i32_115 : BitVec 32 := 0#32
  let c0_i32_111 : BitVec 32 := 0#32
  let c4_i32_114 : BitVec 32 := 4#32
  let v126 : BitVec 32 := Scalar.muli c0_i32_111 c4_i32_114
  let v127 : BitVec 32 := Scalar.addi c0_i32_115 v126
  let c1_i32_112 : BitVec 32 := 1#32
  let c2_i32_116 : BitVec 32 := 2#32
  let v128 : BitVec 32 := Scalar.muli c1_i32_112 c2_i32_116
  let v129 : BitVec 32 := Scalar.addi v127 v128
  let c1_i32_113 : BitVec 32 := 1#32
  let c1_i32_117 : BitVec 32 := 1#32
  let v130 : BitVec 32 := Scalar.muli c1_i32_113 c1_i32_117
  let v131 : BitVec 32 := Scalar.addi v129 v130
  v131.toNat
def k0_cond13 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_41 : BitVec 32 := 4#32
  let v81 : BitVec 1 := Scalar.cmpi .ne v12 c4_i32_41
  let v82 : BitVec 32 := Scalar.extui v81
  let c0_i32_43 : BitVec 32 := 0#32
  let v83 : BitVec 1 := Scalar.cmpi .ne v82 c0_i32_43
  v83

def k0_off9 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off10 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev13 : Nat :=
  let c0_i32_115 : BitVec 32 := 0#32
  let c1_i32_111 : BitVec 32 := 1#32
  let c4_i32_114 : BitVec 32 := 4#32
  let v126 : BitVec 32 := Scalar.muli c1_i32_111 c4_i32_114
  let v127 : BitVec 32 := Scalar.addi c0_i32_115 v126
  let c0_i32_112 : BitVec 32 := 0#32
  let c2_i32_116 : BitVec 32 := 2#32
  let v128 : BitVec 32 := Scalar.muli c0_i32_112 c2_i32_116
  let v129 : BitVec 32 := Scalar.addi v127 v128
  let c0_i32_113 : BitVec 32 := 0#32
  let c1_i32_117 : BitVec 32 := 1#32
  let v130 : BitVec 32 := Scalar.muli c0_i32_113 c1_i32_117
  let v131 : BitVec 32 := Scalar.addi v129 v130
  v131.toNat
def k0_cond14 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_44 : BitVec 32 := 5#32
  let v84 : BitVec 1 := Scalar.cmpi .ne v12 c5_i32_44
  let v85 : BitVec 32 := Scalar.extui v84
  let c0_i32_46 : BitVec 32 := 0#32
  let v86 : BitVec 1 := Scalar.cmpi .ne v85 c0_i32_46
  v86

def k0_off11 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off12 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev14 : Nat :=
  let c0_i32_115 : BitVec 32 := 0#32
  let c1_i32_111 : BitVec 32 := 1#32
  let c4_i32_114 : BitVec 32 := 4#32
  let v126 : BitVec 32 := Scalar.muli c1_i32_111 c4_i32_114
  let v127 : BitVec 32 := Scalar.addi c0_i32_115 v126
  let c0_i32_112 : BitVec 32 := 0#32
  let c2_i32_116 : BitVec 32 := 2#32
  let v128 : BitVec 32 := Scalar.muli c0_i32_112 c2_i32_116
  let v129 : BitVec 32 := Scalar.addi v127 v128
  let c1_i32_113 : BitVec 32 := 1#32
  let c1_i32_117 : BitVec 32 := 1#32
  let v130 : BitVec 32 := Scalar.muli c1_i32_113 c1_i32_117
  let v131 : BitVec 32 := Scalar.addi v129 v130
  v131.toNat
def k0_cond15 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32_47 : BitVec 32 := 6#32
  let v87 : BitVec 1 := Scalar.cmpi .ne v12 c6_i32_47
  let v88 : BitVec 32 := Scalar.extui v87
  let c0_i32_49 : BitVec 32 := 0#32
  let v89 : BitVec 1 := Scalar.cmpi .ne v88 c0_i32_49
  v89

def k0_off13 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off14 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev15 : Nat :=
  let c0_i32_115 : BitVec 32 := 0#32
  let c1_i32_111 : BitVec 32 := 1#32
  let c4_i32_114 : BitVec 32 := 4#32
  let v126 : BitVec 32 := Scalar.muli c1_i32_111 c4_i32_114
  let v127 : BitVec 32 := Scalar.addi c0_i32_115 v126
  let c1_i32_112 : BitVec 32 := 1#32
  let c2_i32_116 : BitVec 32 := 2#32
  let v128 : BitVec 32 := Scalar.muli c1_i32_112 c2_i32_116
  let v129 : BitVec 32 := Scalar.addi v127 v128
  let c0_i32_113 : BitVec 32 := 0#32
  let c1_i32_117 : BitVec 32 := 1#32
  let v130 : BitVec 32 := Scalar.muli c0_i32_113 c1_i32_117
  let v131 : BitVec 32 := Scalar.addi v129 v130
  v131.toNat
def k0_cond16 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32_50 : BitVec 32 := 7#32
  let v90 : BitVec 1 := Scalar.cmpi .ne v12 c7_i32_50
  let v91 : BitVec 32 := Scalar.extui v90
  let c0_i32_52 : BitVec 32 := 0#32
  let v92 : BitVec 1 := Scalar.cmpi .ne v91 c0_i32_52
  v92

def k0_off15 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  ![v12.toNat]
def k0_off16 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_118 : BitVec 32 := 0#32
  let c0_i32_119 : BitVec 32 := 0#32
  ![v12.toNat, 0, 0]
def k0_dev16 : Nat :=
  let c0_i32_115 : BitVec 32 := 0#32
  let c1_i32_111 : BitVec 32 := 1#32
  let c4_i32_114 : BitVec 32 := 4#32
  let v126 : BitVec 32 := Scalar.muli c1_i32_111 c4_i32_114
  let v127 : BitVec 32 := Scalar.addi c0_i32_115 v126
  let c1_i32_112 : BitVec 32 := 1#32
  let c2_i32_116 : BitVec 32 := 2#32
  let v128 : BitVec 32 := Scalar.muli c1_i32_112 c2_i32_116
  let v129 : BitVec 32 := Scalar.addi v127 v128
  let c1_i32_113 : BitVec 32 := 1#32
  let c1_i32_117 : BitVec 32 := 1#32
  let v130 : BitVec 32 := Scalar.muli c1_i32_113 c1_i32_117
  let v131 : BitVec 32 := Scalar.addi v129 v130
  v131.toNat
def k0_off17 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let v95 : Index := Scalar.indexCast v12
  let c0_55 : Index := 0#32
  let c0_56 : Index := 0#32
  ![v95.toNat, 0, 0]
def k0_cond17 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_57 : BitVec 32 := 0#32
  let v99 : BitVec 1 := Scalar.cmpi .ne v12 c0_i32_57
  let v100 : BitVec 32 := Scalar.extui v99
  let c0_i32_62 : BitVec 32 := 0#32
  let v101 : BitVec 1 := Scalar.cmpi .ne v100 c0_i32_62
  v101

def k0_off18 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond18 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c1_i32_63 : BitVec 32 := 1#32
  let v102 : BitVec 1 := Scalar.cmpi .ne v12 c1_i32_63
  let v103 : BitVec 32 := Scalar.extui v102
  let c0_i32_68 : BitVec 32 := 0#32
  let v104 : BitVec 1 := Scalar.cmpi .ne v103 c0_i32_68
  v104

def k0_off19 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond19 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c2_i32_69 : BitVec 32 := 2#32
  let v105 : BitVec 1 := Scalar.cmpi .ne v12 c2_i32_69
  let v106 : BitVec 32 := Scalar.extui v105
  let c0_i32_74 : BitVec 32 := 0#32
  let v107 : BitVec 1 := Scalar.cmpi .ne v106 c0_i32_74
  v107

def k0_off20 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond20 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c3_i32_75 : BitVec 32 := 3#32
  let v108 : BitVec 1 := Scalar.cmpi .ne v12 c3_i32_75
  let v109 : BitVec 32 := Scalar.extui v108
  let c0_i32_80 : BitVec 32 := 0#32
  let v110 : BitVec 1 := Scalar.cmpi .ne v109 c0_i32_80
  v110

def k0_off21 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond21 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c4_i32_81 : BitVec 32 := 4#32
  let v111 : BitVec 1 := Scalar.cmpi .ne v12 c4_i32_81
  let v112 : BitVec 32 := Scalar.extui v111
  let c0_i32_86 : BitVec 32 := 0#32
  let v113 : BitVec 1 := Scalar.cmpi .ne v112 c0_i32_86
  v113

def k0_off22 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond22 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c5_i32_87 : BitVec 32 := 5#32
  let v114 : BitVec 1 := Scalar.cmpi .ne v12 c5_i32_87
  let v115 : BitVec 32 := Scalar.extui v114
  let c0_i32_92 : BitVec 32 := 0#32
  let v116 : BitVec 1 := Scalar.cmpi .ne v115 c0_i32_92
  v116

def k0_off23 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond23 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c6_i32_93 : BitVec 32 := 6#32
  let v117 : BitVec 1 := Scalar.cmpi .ne v12 c6_i32_93
  let v118 : BitVec 32 := Scalar.extui v117
  let c0_i32_98 : BitVec 32 := 0#32
  let v119 : BitVec 1 := Scalar.cmpi .ne v118 c0_i32_98
  v119

def k0_off24 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
def k0_cond24 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c7_i32_99 : BitVec 32 := 7#32
  let v120 : BitVec 1 := Scalar.cmpi .ne v12 c7_i32_99
  let v121 : BitVec 32 := Scalar.extui v120
  let c0_i32_104 : BitVec 32 := 0#32
  let v122 : BitVec 1 := Scalar.cmpi .ne v121 c0_i32_104
  v122

def k0_off25 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_0 : BitVec 32 := 4#32
  let v3 : BitVec 32 := Scalar.muli v2 c4_i32_0
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let c2_i32_3 : BitVec 32 := 2#32
  let v7 : BitVec 32 := Scalar.muli v6 c2_i32_3
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_124 : BitVec 32 := 0#32
  let c0_i32_125 : BitVec 32 := 0#32
  ![v12.toNat, 0, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KI.Common.lean ====
/-
Every device adds up its partial sums, hands one copy of them to each of the seven others and adds the eight blocks.

The protocol, in the one round every cell has. The barrier cell of device `c` is paid one unit by each peer `d`: the unit
hands over slot `c` of `d`'s landing buffer and that `d`'s receive cell for `c` is open. After its seven units device `c`
copies its partial block to slot `c` of each peer's buffer: the copy pays the peer's receive cell `c` with that slot, at
the contents every device agrees on, and the own send cell of that peer with the share of the partial block it read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Pipeline.FrameBody
public import Idealize.ShloMosaic.Lib.Rounds
public import Idealize.ShloMosaic.Lib.Ring
public import Idealize.ShloMosaic.Lib.ShareLeaves
public import Idealize.ShloMosaic.Lib.ValueLayout
public import Idealize.ShloMosaic.Lib.Pointwise
public import Idealize.ShloMosaic.Lib.Tactic

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The barrier cells' and transfer cells' ghost: duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs and cells -/

abbrev xM : Memref sig .tc .vmem S256x1024 .f32 := Memref.whole cc0_stg0_0
abbrev yM : Memref sig .tc .vmem S256x1024 .f32 := Memref.whole cc0_stg1_0
abbrev oM : Memref sig .tc .vmem S2x1024 .f32 := Memref.whole cc0_stg2_0
abbrev partM : Memref sig .tc .vmem S2x1024 .f32 := Memref.whole cc0_scratch0
abbrev commM : Memref sig .tc .vmem S8x2x1024 .f32 := Memref.whole cc0_scratch1

abbrev barS : Sem sig := sig.barrier 0 rfl

theorem slot_inb (j : Dev nD) : ∀ a, (![j.val, 0, 0] : Fin 3 → ℕ) a + S1x2x1024.size a ≤ S8x2x1024.size a := by
  revert j; decide
theorem sem_inb (j : Dev nD) : ∀ a, (![j.val] : Fin 1 → ℕ) a + S1.size a ≤ S8.size a := by
  revert j; decide

/-- Slot `j` of the landing buffer. -/
abbrev slotR (j : Dev nD) : Rect S8x2x1024 := Rect.unit (s := S8x2x1024) ![j.val, 0, 0] S1x2x1024.size (slot_inb j)
abbrev slotM (j : Dev nD) : Memref sig .tc .vmem S2x1024 .f32 :=
  (commM.slice (slotR j) (fun _ => rfl)).squeeze S2x1024 squeezes_S1x2x1024_S2x1024

abbrev sendS (j : Dev nD) : DmaSem sig := ((cc0_scratch2.slice (Rect.unit (s := S8) ![j.val] S1.size (sem_inb j))).squeeze S_ squeezes_S1_S_).sem
abbrev recvS (j : Dev nD) : DmaSem sig := ((cc0_scratch3.slice (Rect.unit (s := S8) ![j.val] S1.size (sem_inb j))).squeeze S_ squeezes_S1_S_).sem

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

theorem recvS_inj : ∀ i j : Dev nD, recvS i = recvS j → i = j := by decide
theorem sendS_inj : ∀ i j : Dev nD, sendS i = sendS j → i = j := by decide
theorem send_ne_recv : ∀ i j : Dev nD, sendS i ≠ recvS j := by decide

abbrev N : ℕ := (partM : Memref sig .tc .vmem S2x1024 .f32).view.dmaCredit
theorem N_pos : 0 < N := View.dmaCredit_pos _ (by decide)
theorem slot_credit (j : Dev nD) : (slotM j).view.dmaCredit = N := by revert j; decide

/-! ## Contents -/

variable (P : Dev nD → S2x1024.Idx → Elt F .f32)

/-- What the landing buffer of EVERY device holds once all eight blocks are there: block `j` is device `j`'s partial block. -/
def commAll : S8x2x1024.Idx → Elt F .f32 := fun i => P (i 0) (ix2 (i 1) (i 2))

/-- Slot `j` of device `c`'s landing buffer, at `f`. -/
def slotPts (c j : Dev nD) (f : S8x2x1024.Idx → Elt F .f32) : sProp 𝕄 :=
  (slotM j).view.loc (c : Thread nD τ) ↦[(slotM j).view.set]{fullShare} f
/-- A share of device `c`'s partial block. -/
def partPts (c : Dev nD) (q : PosShare TreeShare) : sProp 𝕄 :=
  (partM : Memref sig .tc .vmem S2x1024 .f32).view.loc (c : Thread nD τ) ↦[(partM : Memref sig .tc .vmem S2x1024 .f32).view.set]{q} P c

instance slotPts_storable (c j : Dev nD) (f) : BI.Storable (upEmb : UEmb _ 𝕄) (slotPts (F := F) c j f) := by unfold slotPts; infer_instance
instance partPts_storable (c : Dev nD) (q) : BI.Storable (upEmb : UEmb _ 𝕄) (partPts P c q) := by unfold partPts; infer_instance

/-- Element `y` of slot `j` is element `(j, y)` of the buffer. -/
theorem slot_emb (j : Dev nD) (a : Fin 2) (b : Fin 1024) : (slotM j).view.emb (ix2 a b) = (ix3 j a b : S8x2x1024.Idx) := by
  show (slotR j).emb (Shape.reshapeEquiv squeezes_S1x2x1024_S2x1024.numel_eq (ix2 a b)) = _
  rw [show Shape.reshapeEquiv squeezes_S1x2x1024_S2x1024.numel_eq (ix2 a b) = (ix3 (⟨0, Nat.one_pos⟩ : Fin 1) a b : S1x2x1024.Idx) from
    ValueIdx.reshapeEquiv_ix2_1ab _ a b]
  funext i; apply Fin.ext
  fin_cases i
  · show j.val + 0 * 1 = j.val; omega
  · show 0 + 1 * a.val = a.val; omega
  · show 0 + 1 * b.val = b.val; omega

/-- The share device `c` lends the copy to `p`. -/
abbrev lend (p : Dev nD) : PosShare TreeShare := Idealize.ShloMosaic.ShareLeaves.leaf 3 fullShare p

/-! ## The schedule -/

/-- Device `d`'s unit on device `c`'s barrier cell. -/
def readyPay (d c : Dev nD) : sProp 𝕄 := iprop((∃ f, slotPts (F := F) d c f) ∗ reached ER (recvCell d c) 0)

/-- The duties: on a barrier cell one per peer; on receive cell `j` and send cell `j` one, named `j`, unless `j` is the device itself. -/
def rd : Rounds.Schedule (GSem nD τ sig) (Dev nD) 𝕄 where
  duties g r := if r = 0 ∧ g.1.2 = .tc then
      (if g.2 = .reg barS then Finset.univ.erase g.1.1
        else Finset.univ.filter fun j => j ≠ g.1.1 ∧ (g.2 = .dma (recvS j) ∨ g.2 = .dma (sendS j)))
    else ∅
  unitless _ := False
  amount g _ _ := if g.2 = .reg barS then 1 else N
  payload g _ d :=
    if g.2 = .reg barS then readyPay d g.1.1
    else if g.2 = .dma (recvS d) then slotPts g.1.1 d (commAll P)
    else if g.2 = .dma (sendS d) then partPts P g.1.1 (lend d)
    else iprop(emp)
  amount_pos g _ _ _ := by
    by_cases h : g.2 = .reg barS
    · rw [if_pos h]; exact Nat.one_pos
    · rw [if_neg h]; exact N_pos

instance rd_payload_storable (g : GSem nD τ sig) (r : ℕ) (d : Dev nD) :
    BI.Storable (upEmb : UEmb _ 𝕄) ((rd P).payload g r d) := by
  show BI.Storable upEmb (if g.2 = .reg barS then readyPay d g.1.1
    else if g.2 = .dma (recvS d) then slotPts g.1.1 d (commAll P)
    else if g.2 = .dma (sendS d) then partPts P g.1.1 (lend d)
    else iprop(emp))
  unfold readyPay
  (repeat' split) <;> infer_instance

section Sched

variable (c j : Dev nD)

theorem duties_bar : (rd P).duties (barCell c) 0 = Finset.univ.erase c := by
  dsimp only [rd]; rw [if_pos ⟨rfl, rfl⟩, if_pos rfl]
theorem duties_recv (h : j ≠ c) : (rd P).duties (recvCell c j) 0 = {j} := by
  dsimp only [rd]
  rw [if_pos ⟨rfl, rfl⟩, if_neg (fun h => by cases h)]
  ext i
  simp only [Finset.mem_filter, Finset.mem_univ, true_and, Finset.mem_singleton, SemLoc.dma.injEq]
  constructor
  · rintro ⟨-, h' | h'⟩
    · exact (recvS_inj _ _ h').symm
    · exact absurd h'.symm (send_ne_recv _ _)
  · rintro rfl; exact ⟨h, .inl rfl⟩
theorem duties_send (h : j ≠ c) : (rd P).duties (sendCell c j) 0 = {j} := by
  dsimp only [rd]
  rw [if_pos ⟨rfl, rfl⟩, if_neg (fun h => by cases h)]
  ext i
  simp only [Finset.mem_filter, Finset.mem_univ, true_and, Finset.mem_singleton, SemLoc.dma.injEq]
  constructor
  · rintro ⟨-, h' | h'⟩
    · exact absurd h' (send_ne_recv _ _)
    · exact (sendS_inj _ _ h').symm
  · rintro rfl; exact ⟨h, .inr rfl⟩
theorem duties_later (g : GSem nD τ sig) : ∀ r, 0 + 1 ≤ r → (rd P).duties g r = ∅ :=
  fun r hr => by dsimp only [rd]; rw [if_neg (fun h => by omega)]

theorem amount_bar (d : Dev nD) : (rd P).amount (barCell c) 0 d = 1 := by dsimp only [rd]; exact if_pos rfl
theorem amount_recv (d : Dev nD) : (rd P).amount (recvCell c j) 0 d = N := by dsimp only [rd]; exact if_neg (fun h => by cases h)
theorem amount_send (d : Dev nD) : (rd P).amount (sendCell c j) 0 d = N := by dsimp only [rd]; exact if_neg (fun h => by cases h)

theorem expect_bar : (rd P).expect (barCell c) 0 = 7 := by
  unfold Schedule.expect Schedule.amountOf
  rw [duties_bar, Finset.sum_congr rfl (fun d _ => amount_bar P c d), Finset.sum_const, Finset.card_erase_of_mem (Finset.mem_univ _)]
  rfl
theorem expect_recv (h : j ≠ c) : (rd P).expect (recvCell c j) 0 = N := by
  unfold Schedule.expect Schedule.amountOf; rw [duties_recv P c j h, Finset.sum_singleton, amount_recv]
theorem expect_send (h : j ≠ c) : (rd P).expect (sendCell c j) 0 = N := by
  unfold Schedule.expect Schedule.amountOf; rw [duties_send P c j h, Finset.sum_singleton, amount_send]

theorem payload_bar (d : Dev nD) : (rd P).payload (barCell c) 0 d = readyPay d c := by dsimp only [rd]; exact if_pos rfl
theorem payload_recv : (rd P).payload (recvCell c j) 0 j = slotPts c j (commAll P) := by
  dsimp only [rd]; rw [if_neg (fun h => by cases h), if_pos rfl]
theorem payload_send : (rd P).payload (sendCell c j) 0 j = partPts P c (lend j) := by
  dsimp only [rd]
  rw [if_neg (fun h => by cases h), if_neg (fun h => send_ne_recv j j (SemLoc.dma.inj h)), if_pos rfl]

theorem rest_bar : bigSep ((rd P).duties (barCell c) 0 \ ∅) (fun d => (rd P).payload (barCell c) 0 d)
    = bigSep (Finset.univ.erase c) (fun d => readyPay (F := F) d c) := by
  rw [Finset.sdiff_empty, duties_bar]
  exact bigSep_congr fun d _ => payload_bar P c d
theorem rest_recv (h : j ≠ c) : bigSep ((rd P).duties (recvCell c j) 0 \ ∅) (fun d => (rd P).payload (recvCell c j) 0 d) = slotPts c j (commAll P) := by
  rw [Finset.sdiff_empty, duties_recv P c j h, bigSep_singleton, payload_recv]
theorem rest_send (h : j ≠ c) : bigSep ((rd P).duties (sendCell c j) 0 \ ∅) (fun d => (rd P).payload (sendCell c j) 0 d) = partPts P c (lend j) := by
  rw [Finset.sdiff_empty, duties_send P c j h, bigSep_singleton, payload_send]

end Sched

/-! ## The peers still to do and those done -/

/-- The peers of `c` from the `k`-th on. -/
def rem (k : ℕ) (c : Dev nD) : Finset (Dev nD) := Finset.univ.filter fun p => k ≤ p.val ∧ p ≠ c
/-- The peers of `c` before the `k`-th. -/
def don (k : ℕ) (c : Dev nD) : Finset (Dev nD) := Finset.univ.filter fun p => p.val < k ∧ p ≠ c

theorem rem_zero (c : Dev nD) : rem 0 c = Finset.univ.erase c := by revert c; decide
theorem rem_last (c : Dev nD) : rem 8 c = ∅ := by revert c; decide
theorem don_zero (c : Dev nD) : don 0 c = ∅ := by revert c; decide
theorem don_last (c : Dev nD) : don 8 c = Finset.univ.erase c := by revert c; decide
theorem rem_ne : ∀ c p : Dev nD, p ≠ c → rem p.val c = insert p (rem (p.val + 1) c) := by decide
theorem rem_eq : ∀ c : Dev nD, rem c.val c = rem (c.val + 1) c := by decide
theorem not_mem_rem : ∀ c p : Dev nD, p ∉ rem (p.val + 1) c := by decide
theorem don_ne : ∀ c p : Dev nD, p ≠ c → don (p.val + 1) c = insert p (don p.val c) := by decide
theorem don_eq : ∀ c : Dev nD, don (c.val + 1) c = don c.val c := by decide
theorem not_mem_don : ∀ c p : Dev nD, p ∉ don p.val c := by decide

theorem bigSep_rem {c p : Dev nD} (h : p ≠ c) (Φ : Dev nD → sProp 𝕄) :
    bigSep (rem p.val c) Φ = iprop(Φ p ∗ bigSep (rem (p.val + 1) c) Φ) := by
  rw [rem_ne c p h, bigSep_insert (not_mem_rem c p)]; rfl
theorem bigSep_don {c p : Dev nD} (h : p ≠ c) (Φ : Dev nD → sProp 𝕄) :
    bigSep (don (p.val + 1) c) Φ = iprop(Φ p ∗ bigSep (don p.val c) Φ) := by
  rw [don_ne c p h, bigSep_insert (not_mem_don c p)]; rfl

/-! ## What each device owes; the levels -/

/-- The receive credits device `c` still owes from its `k`-th peer on. -/
def Or (k : ℕ) (c : Dev nD) : CellTallies nD τ sig Unit := ∑ p ∈ rem k c, tallyAt (recvCell p c) () N
/-- The barrier units device `c` still owes from its `k`-th peer on. -/
def Ob (k : ℕ) (c : Dev nD) : CellTallies nD τ sig Unit := ∑ p ∈ rem k c, tallyAt (barCell p) () 1
def O₀ (c : Dev nD) : CellTallies nD τ sig Unit := Or 0 c + Ob 0 c

theorem Or_step {c p : Dev nD} (h : p ≠ c) : Or p.val c = Or (p.val + 1) c + tallyAt (recvCell p c) () N := by
  unfold Or; rw [rem_ne c p h, Finset.sum_insert (not_mem_rem c p), add_comm]
theorem Ob_step {c p : Dev nD} (h : p ≠ c) (O : CellTallies nD τ sig Unit) :
    O + Ob p.val c = (O + Ob (p.val + 1) c) + tallyAt (barCell p) () 1 := by
  unfold Ob; rw [rem_ne c p h, Finset.sum_insert (not_mem_rem c p), add_assoc, add_comm (tallyAt _ _ _)]
theorem Or_last (c : Dev nD) : Or 8 c = 0 := by unfold Or; rw [rem_last, Finset.sum_empty]
theorem Ob_last (c : Dev nD) : Ob 8 c = 0 := by unfold Ob; rw [rem_last, Finset.sum_empty]

def L (g : GSem nD τ sig) : Finset Unit := if g.1.2 = .tc then {()} else ∅
/-- Barrier cells at 1, receive cells at 2, the rest at 0. -/
def lv (g : GSem nD τ sig) (_ : Unit) : ℕ :=
  if g.2 = .reg barS then 1 else if ∃ j : Dev nD, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c j : Dev nD) : lv (recvCell c j) () = 2 := by
  unfold lv; rw [if_neg (fun h => by cases h), if_pos ⟨j, rfl⟩]

/-- Where a receive credit is owed. -/
theorem Or_pos {k : ℕ} {c : Dev nD} {g : GSem nD τ sig} {u : Unit} (h : 0 < Or k c g u) : ∃ p, p ≠ c ∧ g = recvCell p c := by
  unfold Or at h
  rw [Finset.sum_apply, Finsupp.finset_sum_apply] at h
  obtain ⟨p, hp, hpos⟩ := Finset.exists_ne_zero_of_sum_ne_zero (Nat.ne_of_gt h)
  rw [tallyAt_apply] at hpos
  by_cases hg : g = recvCell p c ∧ u = ()
  · exact ⟨p, (Finset.mem_filter.mp hp).2.2, hg.1⟩
  · rw [if_neg hg] at hpos; exact absurd rfl hpos
theorem Ob_pos {k : ℕ} {c : Dev nD} {g : GSem nD τ sig} {u : Unit} (h : 0 < Ob k c g u) : ∃ p, p ≠ c ∧ g = barCell p := by
  unfold Ob at h
  rw [Finset.sum_apply, Finsupp.finset_sum_apply] at h
  obtain ⟨p, hp, hpos⟩ := Finset.exists_ne_zero_of_sum_ne_zero (Nat.ne_of_gt h)
  rw [tallyAt_apply] at hpos
  by_cases hg : g = barCell p ∧ u = ()
  · exact ⟨p, (Finset.mem_filter.mp hp).2.2, hg.1⟩
  · rw [if_neg hg] at hpos; exact absurd rfl hpos

/-- Device `c` waits its barrier while it owes the receive credits. -/
theorem mayWait_bar (c : Dev nD) :
    (levAts L lv : sProp 𝕄) ⊢ MayWait (c : Thread nD τ) (.reg barS) () (Or 0 c) :=
  MayOwe.of_cut (L := L) (lev := lv) 1 (fun p hp => by rw [Finset.mem_singleton.mp hp, L_tc]; exact Finset.mem_singleton_self _)
    (fun g u hg => by obtain ⟨p, -, rfl⟩ := Or_pos hg; rw [L_tc]; exact Finset.mem_singleton_self _)
    (fun p hp => by rw [Finset.mem_singleton.mp hp]; exact (lv_bar c).le)
    (fun g u hg => by obtain ⟨p, -, rfl⟩ := Or_pos hg; rw [lv_recv]; decide)

/-! ## The cells -/

/-- All the protocol's cells: the barrier cells, the receive and send cells of every pair. -/
def barCells : Finset (GSem nD τ sig) := Finset.univ.image barCell
def dmaCells : Finset (GSem nD τ sig) :=
  (Finset.univ.image fun x : Dev nD × Dev nD => recvCell x.1 x.2) ∪ (Finset.univ.image fun x : Dev nD × Dev nD => sendCell x.1 x.2)
def cells : Finset (GSem nD τ sig) := barCells ∪ dmaCells

theorem bar_mem (c : Dev nD) : barCell c ∈ cells := Finset.mem_union_left _ (Finset.mem_image_of_mem _ (Finset.mem_univ _))
theorem recv_mem (c j : Dev nD) : recvCell c j ∈ cells :=
  Finset.mem_union_right _ (Finset.mem_union_left _ (Finset.mem_image.mpr ⟨(c, j), Finset.mem_univ _, rfl⟩))
theorem send_mem (c j : Dev nD) : sendCell c j ∈ cells :=
  Finset.mem_union_right _ (Finset.mem_union_right _ (Finset.mem_image.mpr ⟨(c, j), Finset.mem_univ _, rfl⟩))

/-- Every cell's invariant, at the names `K`. -/
def invs (K : GSem nD τ sig → ℕ) : sProp 𝕄 := bigSep cells fun g => cellInv ER (rd P) (K g) g

instance invs_persistent (K : GSem nD τ sig → ℕ) : BI.Persistent (invs P K) := by unfold invs; infer_instance

theorem invs_get (K : GSem nD τ sig → ℕ) {g : GSem nD τ sig} (hg : g ∈ cells) : invs P K ⊢ cellInv ER (rd P) (K g) g :=
  bigSep_elim hg

theorem close (κ : ℕ) (g : GSem nD τ sig) :
    iprop(cellInv ER (rd P) κ g ∗ atPos ER g (0 + 1) ∅ 0) ⊢ (|={Set.univ}=> semVal g 0 : sProp 𝕄) :=
  Rounds.cell_close ER (rd P) (Set.mem_univ κ) id (duties_later P g)

abbrev 𝒱₀ : Variants := Variants.none

end Cert.KernelIdeal.Run

end
-- ==== Proof.KI.Steps.lean ====
/-
The three repeated steps of the kernel's body, each once for a symbolic device and a symbolic peer: signal a peer's
barrier, copy the partial block to a peer, wait for the pair of transfers a peer is part of.
-/
module

public import proofs.«01_k».proof.Proof.KI.Common

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (P : Dev nD → S2x1024.Idx → Elt F .f32)

/-! ## Contents -/

/-- What the copy from device `p` leaves in slot `p`, whatever was there. -/
theorem landed_eq (c p : Dev nD) (fd : S8x2x1024.Idx → Elt F .f32) :
    ((slotM p).view.loc (c : Thread nD τ) ↦[(slotM p).view.set]{fullShare}
        ((slotM p).view.write (Elt F) fd ((partM : Memref sig .tc .vmem S2x1024 .f32).view.read (Elt F) (P p)) Finset.univ) : sProp 𝕄)
      = slotPts c p (commAll P) := by
  unfold slotPts
  refine pointsTo_congr fun i hi => ?_
  obtain ⟨y, rfl⟩ := (slotM p).view.exists_emb_of_mem_set hi
  rw [View.write_emb_of_mem _ _ (Finset.mem_univ y)]
  obtain ⟨a, b, rfl⟩ : ∃ (a : Fin 2) (b : Fin 1024), y = ix2 a b := ⟨y 0, y 1, eq_ix2 y⟩
  rw [slot_emb]
  rfl

/-! ## What each step takes and gives -/

/-- To signal `p`: the token, the own slot for `p`'s block, the own receive cell for it open. -/
def fA (c p : Dev nD) : sProp 𝕄 :=
  iprop(dutyTok ER (barCell p) 0 c ∗ reached ER (barCell p) 0 ∗ (∃ f, slotPts (F := F) c p f) ∗ reached ER (recvCell c p) 0)
/-- To copy to `p`: the share to lend, `p`'s slot, the two tokens, both cells open. -/
def fB (c p : Dev nD) : sProp 𝕄 :=
  iprop(partPts P c (lend p) ∗ ((∃ f, slotPts (F := F) p c f) ∗ reached ER (recvCell p c) 0)
    ∗ dutyTok ER (sendCell c p) 0 p ∗ reached ER (sendCell c p) 0 ∗ dutyTok ER (recvCell p c) 0 c)
/-- To wait for `p`'s pair: the credits and the positions. -/
def fC (c p : Dev nD) : sProp 𝕄 :=
  iprop(cred (tallyAt (recvCell c p) () N) ∗ atPos ER (recvCell c p) 0 ∅ 0 ∗ cred (tallyAt (sendCell c p) () N) ∗ atPos ER (sendCell c p) 0 ∅ 0)
/-- What the pair leaves: `p`'s block landed, the lent share back, both counters at zero. -/
def gC (c p : Dev nD) : sProp 𝕄 :=
  iprop(slotPts c p (commAll P) ∗ partPts P c (lend p) ∗ semVal (recvCell c p) 0 ∗ semVal (sendCell c p) 0)

/-! ## The steps -/

/-- The signal to peer `p` (nothing when `p` is the device itself). -/
theorem stepA (K : GSem nD τ sig → ℕ) (c p : Dev nD) (W : Waits sig Unit) (O : CellTallies nD τ sig Unit) {cond : BitVec 1}
    (hcond : cond = 1#1 ↔ p ≠ c) {dv : cond = 1#1 → Dev nD} (hdv : ∀ h, dv h = p) {α : Type} (k : Unit → Prog (TpuEff nD τ sig (Elt F) Λ₀ .tc) α) (Q : α → sProp 𝕄) :
    iprop(invs P K ∗ owes (c : Thread nD τ) (O + Ob p.val c) W ∗ bigSep (rem p.val c) (fA c)
        ∗ ((owes (c : Thread nD τ) (O + Ob (p.val + 1) c) W ∗ bigSep (rem (p.val + 1) c) (fA c)) -∗ wp frame (wpE (defs₀ (F := F)) 𝒱₀ c none) Set.univ (k ⟨⟩) Q))
      ⊢ wp frame (wpE (defs₀ (F := F)) 𝒱₀ c none) Set.univ
          (if h : cond = 1#1 then do
              semSignalWord (dv h) (SemArray.scalar (sig.barrier 0 rfl) : Sems sig S_).sem 1#32
              k ⟨⟩
            else do
              k ⟨⟩) Q := by
  by_cases h : cond = 1#1
  · have hp := hcond.mp h
    rw [dif_pos h, hdv h, bigSep_rem hp, Ob_step hp]
    simp only [semSignalWord, Prog.lift, Prog.bind_op, Prog.bind_ret, Prog.pure_eq_ret]
    unfold fA
    iintro ⟨#HI, HO, ⟨⟨Htok, #Hrb, Hs, #Hrr⟩, HA⟩, Hk⟩
    iapply (Rounds.wp_signal 𝒱₀ ER (rd P) (c : Thread nD τ) none (dst := (p : Thread nD τ)) (sem := barS) (r := 0) (d := c) (κ := K (barCell p))
        (by rw [duties_bar]; exact Finset.mem_erase.mpr ⟨hp.symm, Finset.mem_univ _⟩) ((amount_bar P p c).trans (by decide)) () (O + Ob (p.val + 1) c) rfl)
      $$ [HO Htok Hs]
    · isplitr; · iapply (invs_get P K (bar_mem p)); iexact HI
      isplitl [HO]; · iexact HO
      isplitl [Htok]; · iexact Htok
      isplitl [Hs]
      · rw [payload_bar]; unfold readyPay
        isplitl [Hs]; · iexact Hs
        iexact Hrr
      · iexact Hrb
    iintro HO
    iapply Hk
    isplitl [HO]; · iexact HO
    iexact HA
  · have hp : p = c := by by_contra hne; exact h (hcond.mpr hne)
    subst hp
    rw [dif_neg h]
    unfold Ob
    rw [rem_eq]
    iintro ⟨-, HO, HA, Hk⟩
    iapply Hk
    isplitl [HO]; · iexact HO
    iexact HA

/-- The copy to peer `p` (nothing when `p` is the device itself). -/
theorem stepB (K : GSem nD τ sig → ℕ) (c p : Dev nD) (W : Waits sig Unit) {cond : BitVec 1}
    (hcond : cond = 1#1 ↔ p ≠ c) {dv : cond = 1#1 → Dev nD} (hdv : ∀ h, dv h = p)
    {o1 : Fin 1 → ℕ} {o2 : Fin 3 → ℕ} {o3 : Fin 1 → ℕ} (h1 : o1 = ![p.val]) (h2 : o2 = ![c.val, 0, 0]) (h3 : o3 = ![c.val])
    {inb1 : ∀ a, o1 a + S1.size a ≤ S8.size a} {inb2 : cond = 1#1 → ∀ a, o2 a + S1x2x1024.size a ≤ S8x2x1024.size a} {inb3 : cond = 1#1 → ∀ a, o3 a + S1.size a ≤ S8.size a}
    {α : Type} (k : Unit → Prog (TpuEff nD τ sig (Elt F) Λ₀ .tc) α) (Q : α → sProp 𝕄) :
    iprop(invs P K ∗ owes (c : Thread nD τ) (Or p.val c) W ∗ bigSep (rem p.val c) (fB P c) ∗ bigSep (don p.val c) (fun p => cred (tallyAt (sendCell c p) () N))
        ∗ ((owes (c : Thread nD τ) (Or (p.val + 1) c) W ∗ bigSep (rem (p.val + 1) c) (fB P c) ∗ bigSep (don (p.val + 1) c) (fun p => cred (tallyAt (sendCell c p) () N))) -∗ wp frame (wpE (defs₀ (F := F)) 𝒱₀ c none) Set.univ (k ⟨⟩) Q))
      ⊢ wp frame (wpE (defs₀ (F := F)) 𝒱₀ c none) Set.univ
          (if h : cond = 1#1 then do
              Prog.lift (.enqueueDma (partM : Memref sig .tc .vmem S2x1024 .f32)
                (.remote (Dev.tc (dv h)) ((commM.slice (Rect.unit (s := S8x2x1024) o2 S1x2x1024.size (inb2 h)) (fun _ => rfl)).squeeze S2x1024 squeezes_S1x2x1024_S2x1024)
                  (.dma ((cc0_scratch2.slice (Rect.unit (s := S8) o1 S1.size inb1)).squeeze S_ squeezes_S1_S_).sem))
                (.dma ((cc0_scratch3.slice (Rect.unit (s := S8) o3 S1.size (inb3 h))).squeeze S_ squeezes_S1_S_).sem) (Memref.isWhole_whole cc0_scratch0).wordExact ((View.wordExact_bits rfl).reshape _ _) ⟨⟨rfl, Or.inl rfl⟩, trivial⟩)
              k ⟨⟩
            else do
              k ⟨⟩) Q := by
  subst h1 h2 h3
  by_cases h : cond = 1#1
  · have hp := hcond.mp h
    rw [dif_pos h, bigSep_rem hp, bigSep_don hp, Or_step hp]
    rw [hdv h]
    simp only [Prog.lift, Prog.bind_op, Prog.bind_ret, Prog.pure_eq_ret]
    unfold fB
    iintro ⟨#HI, HO, ⟨⟨Hp, ⟨⟨%fd, Hs⟩, #Hrr⟩, Hts, #Hrs, Htr⟩, HB⟩, HD, Hk⟩
    unfold partPts slotPts
    iapply (Rounds.wp_send_pointsTo 𝒱₀ ER (rd P) (c : Thread nD τ) none (c' := (p : Thread nD τ)) (src := partM) (dst := slotM c)
        (sS := .dma (sendS p)) (sem := .dma (recvS c)) (q := lend p) (fs := P c) (κ₁ := K (sendCell c p)) (κ₂ := K (recvCell p c))
        (r₁ := 0) (r₂ := 0) (d₁ := p) (d₂ := c) (fd := fd)
        (by rw [duties_send P c p hp]; exact Finset.mem_singleton_self _) (by rw [duties_recv P p c hp.symm]; exact Finset.mem_singleton_self _)
        () () N (slot_credit c) (amount_send P c p p) (amount_recv P p c c) (Or (p.val + 1) c) rfl (W := W)
        (by rw [payload_send]; exact BI.Entails.refl _)
        (by rw [payload_recv, ← landed_eq P p c fd])) $$ [Hp Hs HO Hts Htr]
    · isplitr; · iapply (invs_get P K (send_mem c p)); iexact HI
      isplitr; · iapply (invs_get P K (recv_mem p c)); iexact HI
      isplitl [Hp]; · iexact Hp
      isplitl [Hs]; · iexact Hs
      isplitl [HO]; · iexact HO
      isplitl [Hts]; · iexact Hts
      isplitr; · iexact Hrs
      isplitl [Htr]; · iexact Htr
      iexact Hrr
    iintro ⟨Hcr, HO⟩
    iapply Hk
    isplitl [HO]; · iexact HO
    isplitl [HB]; · iexact HB
    isplitl [Hcr]; · iexact Hcr
    iexact HD
  · have hp : p = c := by by_contra hne; exact h (hcond.mpr hne)
    subst hp
    rw [dif_neg h]
    unfold Or
    rw [rem_eq, don_eq]
    iintro ⟨-, HO, HB, HD, Hk⟩
    iapply Hk
    isplitl [HO]; · iexact HO
    isplitl [HB]; · iexact HB
    iexact HD

/-- The waits for the pair of transfers with peer `p` (nothing when `p` is the device itself). -/
theorem stepC (K : GSem nD τ sig → ℕ) (c p : Dev nD) {cond : BitVec 1}
    (hcond : cond = 1#1 ↔ p ≠ c)
    {o1 : Fin 1 → ℕ} {o2 o3 : Fin 3 → ℕ} (h1 : o1 = ![p.val]) (h2 : o2 = ![p.val, 0, 0]) (h3 : o3 = ![c.val, 0, 0])
    {inb1 : ∀ a, o1 a + S1.size a ≤ S8.size a} {inb1' : ∀ a, o1 a + S1.size a ≤ S8.size a}
    {inb2 : ∀ a, o2 a + S1x2x1024.size a ≤ S8x2x1024.size a} {inb3 : cond = 1#1 → ∀ a, o3 a + S1x2x1024.size a ≤ S8x2x1024.size a}
    {α : Type} (k : Unit → Prog (TpuEff nD τ sig (Elt F) Λ₀ .tc) α) (Q : α → sProp 𝕄) :
    iprop(invs P K ∗ (∃ W, owes (c : Thread nD τ) (0 : CellTallies nD τ sig Unit) W) ∗ bigSep (rem p.val c) (fC (F := F) c) ∗ bigSep (don p.val c) (gC P c)
        ∗ (((∃ W, owes (c : Thread nD τ) (0 : CellTallies nD τ sig Unit) W) ∗ bigSep (rem (p.val + 1) c) (fC (F := F) c) ∗ bigSep (don (p.val + 1) c) (gC P c)) -∗ wp frame (wpE (defs₀ (F := F)) 𝒱₀ c none) Set.univ (k ⟨⟩) Q))
      ⊢ wp frame (wpE (defs₀ (F := F)) 𝒱₀ c none) Set.univ
          (if h : cond = 1#1 then do
              Prog.lift (.waitDma2 ((cc0_scratch3.slice (Rect.unit (s := S8) o1 S1.size inb1)).squeeze S_ squeezes_S1_S_).sem
                (partM : Memref sig .tc .vmem S2x1024 .f32)
                ((commM.slice (Rect.unit (s := S8x2x1024) o2 S1x2x1024.size inb2) (fun _ => rfl)).squeeze S2x1024 squeezes_S1x2x1024_S2x1024) (Memref.isWhole_whole cc0_scratch0).wordExact ((View.wordExact_bits rfl).reshape _ _))
              Prog.lift (.waitDma2 ((cc0_scratch2.slice (Rect.unit (s := S8) o1 S1.size inb1')).squeeze S_ squeezes_S1_S_).sem
                ((commM.slice (Rect.unit (s := S8x2x1024) o3 S1x2x1024.size (inb3 h)) (fun _ => rfl)).squeeze S2x1024 squeezes_S1x2x1024_S2x1024)
                (partM : Memref sig .tc .vmem S2x1024 .f32) ((View.wordExact_bits rfl).reshape _ _) (Memref.isWhole_whole cc0_scratch0).wordExact)
              k ⟨⟩
            else do
              k ⟨⟩) Q := by
  subst h1 h2 h3
  by_cases h : cond = 1#1
  · have hp := hcond.mp h
    rw [dif_pos h, bigSep_rem hp, bigSep_don hp]
    simp only [Prog.lift, Prog.bind_op, Prog.bind_ret, Prog.pure_eq_ret]
    unfold fC
    iintro ⟨#HI, ⟨%W, HO⟩, ⟨⟨Hcr, Har, Hcs, Has⟩, HC⟩, HD, Hk⟩
    iapply (Rounds.wp_wait_rest_token 𝒱₀ ER (rd P) (c : Thread nD τ) none (κ := K (recvCell c p))
        (wpE_waitDma2_eq 𝒱₀ (c : Thread nD τ) none Set.univ) (Set.mem_univ _) () (O := 0) (W := W) (R := 0) (m := 0) (T := ∅)
        (((Nat.zero_add _).trans (slot_credit p)).trans (expect_recv P c p hp).symm)) $$ [Hcr HO Har]
    · isplitr; · iapply (invs_get P K (recv_mem c p)); iexact HI
      isplitl [Hcr]; · iapply (Entails.of_eq (congrArg (fun n => (cred (tallyAt (recvCell c p) () n) : sProp 𝕄)) (slot_credit p).symm)); iexact Hcr
      isplitl [HO]; · iexact HO
      isplitr; · rw [MayWait_zero]; iempintro
      iexact Har
    iintro ⟨HO, Har, -, Hpay⟩
    ihave Hs := (Entails.of_eq (rest_recv P c p hp)) $$ Hpay
    iapply (Rounds.wp_wait_rest_token 𝒱₀ ER (rd P) (c : Thread nD τ) none (κ := K (sendCell c p))
        (wpE_waitDma2_eq 𝒱₀ (c : Thread nD τ) none Set.univ) (Set.mem_univ _) () (O := 0) (W := insert (SemLoc.dma (recvS p), ()) W) (R := 0) (m := 0) (T := ∅)
        ((Nat.zero_add _).trans (expect_send P c p hp).symm)) $$ [Hcs HO Has]
    · isplitr; · iapply (invs_get P K (send_mem c p)); iexact HI
      isplitl [Hcs]; · iexact Hcs
      isplitl [HO]; · iexact HO
      isplitr; · rw [MayWait_zero]; iempintro
      iexact Has
    iintro ⟨HO, Has, -, Hpay⟩
    ihave Hp := (Entails.of_eq (rest_send P c p hp)) $$ Hpay
    imod (close P (K (recvCell c p)) (recvCell c p)) $$ [Har] with Hzr
    · isplitr; · iapply (invs_get P K (recv_mem c p)); iexact HI
      iexact Har
    imod (close P (K (sendCell c p)) (sendCell c p)) $$ [Has] with Hzs
    · isplitr; · iapply (invs_get P K (send_mem c p)); iexact HI
      iexact Has
    iapply Hk
    isplitl [HO]; · iexists _; iexact HO
    isplitl [HC]; · iexact HC
    isplitl [Hs Hp Hzr Hzs]
    · unfold gC
      isplitl [Hs]; · iexact Hs
      isplitl [Hp]; · iexact Hp
      isplitl [Hzr]; · iexact Hzr
      iexact Hzs
    iexact HD
  · have hp : p = c := by by_contra hne; exact h (hcond.mpr hne)
    subst hp
    rw [dif_neg h]
    rw [rem_eq, don_eq]
    iintro ⟨-, HO, HC, HD, Hk⟩
    iapply Hk
    isplitl [HO]; · iexact HO
    isplitl [HC]; · iexact HC
    iexact HD

end Cert.KernelIdeal.Run

end
-- ==== Proof.KI.Parts.lean ====
/-
The kernel's body on device `c`, run once: its four printed parts one after the other, each a chain of the steps of
`Steps.lean`, from the tokens and buffers of the region's entry to the result row block.
-/
module

public import proofs.«01_k».proof.Proof.KI.Steps

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (P : Dev nD → S2x1024.Idx → Elt F .f32)

/-- Two families over one set are one family of pairs, -/
theorem bigSep_pair {I : Type} {s : Finset I} {Φ Ψ : I → sProp 𝕄} : iprop(bigSep s Φ ∗ bigSep s Ψ) ⊢ bigSep s fun i => iprop(Φ i ∗ Ψ i) :=
  Entails.of_eq (BI.bigSep_sep s Φ Ψ).symm
/-- and back. -/
theorem bigSep_unpair {I : Type} {s : Finset I} {Φ Ψ : I → sProp 𝕄} : (bigSep s fun i => iprop(Φ i ∗ Ψ i)) ⊢ iprop(bigSep s Φ ∗ bigSep s Ψ) :=
  Entails.of_eq (BI.bigSep_sep s Φ Ψ)

/-! ## Splitting and joining the two scratch buffers -/

theorem slot_set (j : Dev nD) : (slotM j).view.set = (slotR j).set := by
  show ((View.slice (View.whole cc0_scratch1) (slotR j)).reshape _ _).set = _
  rw [View.set_reshape]; exact View.set_slice_whole _ _

theorem slots_disjoint (i j : Dev nD) (h : i ≠ j) : Disjoint (slotR i).set (slotR j).set :=
  Ring.lead_disjoint (s := S8x2x1024) (NB := 8) 0 1 (fun j => ![j.val, 0, 0]) S1x2x1024.size slot_inb (fun b => (Nat.one_mul _).symm) rfl i j h
theorem slots_cover : Finset.univ.biUnion (fun j : Dev nD => (slotR j).set) = Finset.univ :=
  Ring.lead_cover (s := S8x2x1024) (NB := 8) 0 1 (fun j => ![j.val, 0, 0]) S1x2x1024.size slot_inb (fun b => (Nat.one_mul _).symm)
    (fun b a ha => by fin_cases a <;> first | exact absurd rfl ha | rfl) rfl
    (fun a ha => by fin_cases a <;> first | exact absurd rfl ha | rfl) rfl

/-- The landing buffer held whole is its eight slots. -/
theorem comm_slots (c : Dev nD) (f : S8x2x1024.Idx → Elt F .f32) :
    ((commM : Memref sig .tc .vmem S8x2x1024 .f32).view.loc (c : Thread nD τ) ↦{fullShare} f : sProp 𝕄) = bigSep Finset.univ fun j : Dev nD => slotPts c j f :=
  (Ring.pointsTo_blocks (ℓ := (commM : Memref sig .tc .vmem S8x2x1024 .f32).view.loc (c : Thread nD τ)) (fun j : Dev nD => (slotR j).set) slots_disjoint slots_cover f).trans
    (bigSep_congr fun j _ => by unfold slotPts; rw [slot_set])

/-- The partial block held whole is the eight shares of it. -/
theorem part_shares (c : Dev nD) :
    ((partM : Memref sig .tc .vmem S2x1024 .f32).view.loc (c : Thread nD τ) ↦{fullShare} P c : sProp 𝕄) = bigSep Finset.univ fun p : Dev nD => partPts P c (lend p) :=
  ((Idealize.ShloMosaic.ShareLeaves.pointsTo_leaves (ℓ := (partM : Memref sig .tc .vmem S2x1024 .f32).view.loc (c : Thread nD τ)) Finset.univ (P c) 3 fullShare :
    _ = bigSep (Finset.univ : Finset (Fin 8)) fun p => _)).trans
    (bigSep_congr fun p _ => by unfold partPts lend; rw [View.set_whole])

/-- What is held of every device is held of `c` and of each of its peers. -/
theorem bigSep_own (c : Dev nD) (Φ : Dev nD → sProp 𝕄) : bigSep Finset.univ Φ = iprop(Φ c ∗ bigSep (rem 0 c) Φ) := by
  rw [rem_zero, bigSep_univ_at _ c]
theorem rem_don (c : Dev nD) : don 8 c = rem 0 c := by rw [don_last, rem_zero]

/-! ## The stored contents -/

/-- A device's partial block: the two rows it stores. -/
def partOf (xs ys : S256x1024.Idx → Elt F .f32) : S2x1024.Idx → Elt F .f32 :=
  fun i => if (i 0).val = 0 then k0_pay3 xs ys (ix2 (0 : Fin 1) (i 1)) else k0_pay4 ys (ix2 (0 : Fin 1) (i 1))

abbrev row0 : Rect S2x1024 := Rect.unit (s := S2x1024) ![0, 0] S1x1024.size inb_S2x1024_S1x1024_0_0
abbrev row1 : Rect S2x1024 := Rect.unit (s := S2x1024) ![1, 0] S1x1024.size inb_S2x1024_S1x1024_1_0

theorem row0_emb (b : Fin 1024) : row0.emb (ix2 (0 : Fin 1) b : S1x1024.Idx) = (ix2 (0 : Fin 2) b : S2x1024.Idx) := by
  funext i; apply Fin.ext
  fin_cases i
  · rfl
  · show 0 + 1 * b.val = b.val; omega
theorem row1_emb (b : Fin 1024) : row1.emb (ix2 (0 : Fin 1) b : S1x1024.Idx) = (ix2 (1 : Fin 2) b : S2x1024.Idx) := by
  funext i; apply Fin.ext
  fin_cases i
  · rfl
  · show 0 + 1 * b.val = b.val; omega

/-- The two stores leave the partial block, whatever was there. -/
theorem stored_part (f : S2x1024.Idx → Elt F .f32) (xs ys : S256x1024.Idx → Elt F .f32) :
    ((partM : Memref sig .tc .vmem S2x1024 .f32).access row1).write (Elt F)
        (((partM : Memref sig .tc .vmem S2x1024 .f32).access row0).write (Elt F) f (k0_pay3 xs ys) Finset.univ) (k0_pay4 ys) Finset.univ
      = partOf xs ys := by
  funext i
  obtain ⟨a, b, rfl⟩ : ∃ (a : Fin 2) (b : Fin 1024), i = ix2 a b := ⟨i 0, i 1, eq_ix2 i⟩
  have e1 : ((partM : Memref sig .tc .vmem S2x1024 .f32).access row1).emb (ix2 (0 : Fin 1) b : S1x1024.Idx) = (ix2 (1 : Fin 2) b : S2x1024.Idx) := row1_emb b
  have e0 : ((partM : Memref sig .tc .vmem S2x1024 .f32).access row0).emb (ix2 (0 : Fin 1) b : S1x1024.Idx) = (ix2 (0 : Fin 2) b : S2x1024.Idx) := row0_emb b
  fin_cases a
  · refine (View.write_of_not_mem _ _ _ ?_).trans ?_
    · show (ix2 (0 : Fin 2) b : S2x1024.Idx) ∉ _
      rw [View.setOn_univ, View.set_slice_whole]
      intro h
      exact absurd ((Rect.mem_set_unit.mp h) 0).1 (show ¬ (1 : ℕ) ≤ 0 from Nat.not_succ_le_zero 0)
    · show _ = partOf xs ys (ix2 (0 : Fin 2) b)
      refine Eq.trans ?_ (show k0_pay3 xs ys (ix2 (0 : Fin 1) b) = partOf xs ys (ix2 (0 : Fin 2) b) from (if_pos rfl).symm)
      refine (congrArg _ e0.symm).trans ?_
      exact View.write_emb_of_mem _ _ (Finset.mem_univ _)
  · refine Eq.trans ?_ (show k0_pay4 ys (ix2 (0 : Fin 1) b) = partOf xs ys (ix2 (1 : Fin 2) b) from (if_neg Nat.one_ne_zero).symm)
    refine (congrArg _ e1.symm).trans ?_
    exact View.write_emb_of_mem _ _ (Finset.mem_univ _)

/-- The device's own slot once it has stored its partial block there. -/
theorem stored_slot (c : Dev nD) {off : Fin 3 → ℕ} (hoff : off = ![c.val, 0, 0]) {inb : ∀ a, off a + S1x2x1024.size a ≤ S8x2x1024.size a}
    (f : S8x2x1024.Idx → Elt F .f32) :
    (((commM : Memref sig .tc .vmem S8x2x1024 .f32).access (Rect.unit (s := S8x2x1024) off S1x2x1024.size inb)).loc (c : Thread nD τ) ↦[(slotM c).view.set]{fullShare}
        (((commM : Memref sig .tc .vmem S8x2x1024 .f32).access (Rect.unit (s := S8x2x1024) off S1x2x1024.size inb)).write (Elt F) f (k0_pay5 (P c)) Finset.univ) : sProp 𝕄)
      = slotPts c c (commAll P) := by
  subst hoff
  unfold slotPts
  refine pointsTo_congr fun i hi => ?_
  obtain ⟨y, rfl⟩ := (slotM c).view.exists_emb_of_mem_set hi
  obtain ⟨a, b, rfl⟩ : ∃ (a : Fin 2) (b : Fin 1024), y = ix2 a b := ⟨y 0, y 1, eq_ix2 y⟩
  rw [slot_emb]
  have e : ((commM : Memref sig .tc .vmem S8x2x1024 .f32).access (slotR c)).emb (ix3 (0 : Fin 1) a b : S1x2x1024.Idx) = (ix3 c a b : S8x2x1024.Idx) := by
    show (slotR c).emb (ix3 (0 : Fin 1) a b : S1x2x1024.Idx) = _
    funext i; apply Fin.ext
    fin_cases i
    · show c.val + 0 * 1 = c.val; omega
    · show 0 + 1 * a.val = a.val; omega
    · show 0 + 1 * b.val = b.val; omega
  refine (congrArg _ e.symm).trans ((View.write_emb_of_mem _ _ (Finset.mem_univ _)).trans ?_)
  show k0_pay5 (P c) (ix3 (0 : Fin 1) a b) = P c (ix2 a b)
  pointwise [k0_pay5]

/-! ## The parts -/

/-- The printed offsets name the device itself. -/
theorem dev_split (c : Dev nD) : 4 * (c.val / 4) + 2 * ((c.val / 2) % 2) + (c.val % 2) = c.val := by revert c; decide
theorem off1_of {c : Dev nD} {o : Fin 1 → ℕ} (h : o = ![4 * (c.val / 4) + 2 * ((c.val / 2) % 2) + (c.val % 2)]) : o = ![c.val] := by rw [h, dev_split]
theorem off3_of {c : Dev nD} {o : Fin 3 → ℕ} (h : o = ![4 * (c.val / 4) + 2 * ((c.val / 2) % 2) + (c.val % 2), 0, 0]) : o = ![c.val, 0, 0] := by rw [h, dev_split]
theorem off17_eq (c : Dev nD) : k0_off17 c = ![c.val, 0, 0] := off3_of (k0_off17_eq c)

theorem wp_dev_bind {α : Type} (c : Dev nD) (k : Dev nD → Prog (TpuEff nD τ sig (Elt F) Λ₀ .tc) α) (Q : α → sProp 𝕄) :
    wp frame (wpE (defs₀ (F := F)) 𝒱₀ c none) Set.univ (Prog.lift .deviceId >>= k) Q
      = wp frame (wpE (defs₀ (F := F)) 𝒱₀ c none) Set.univ (k c) Q := by
  simp only [Prog.lift, Prog.bind_op, Prog.bind_ret, wp_deviceId]
/-- An operation at the head of a block, as the rules of the library name it. -/
theorem wp_lift_bind {α β : Type} (c : Dev nD) (e : TpuEff nD τ sig (Elt F) Λ₀ .tc β) (k : β → Prog (TpuEff nD τ sig (Elt F) Λ₀ .tc) α) (Q : α → sProp 𝕄) :
    wp frame (wpE (defs₀ (F := F)) 𝒱₀ c none) Set.univ (Prog.lift e >>= k) Q
      = wp frame (wpE (defs₀ (F := F)) 𝒱₀ c none) Set.univ (.op e k) Q := by
  simp only [Prog.lift, Prog.bind_op, Prog.bind_ret]

/-- A wait by a word at the head of a block. -/
theorem wp_wait_bind {α : Type} (c : Dev nD) (s : Sem sig) (w : BitVec 32) (k : PUnit → Prog (TpuEff nD τ sig (Elt F) Λ₀ .tc) α) (Q : α → sProp 𝕄) :
    wp frame (wpE (defs₀ (F := F)) 𝒱₀ c none) Set.univ (semWaitWord s w >>= k) Q
      = wp frame (wpE (defs₀ (F := F)) 𝒱₀ c none) Set.univ (.op (.semWait s w.toInt) k) Q := by
  simp only [semWaitWord, Prog.lift, Prog.bind_op, Prog.bind_ret]

theorem hz2 : (![0, 0] : Fin 2 → ℕ) = fun _ => 0 := by funext i; fin_cases i <;> rfl
theorem hz3 : (![0, 0, 0] : Fin 3 → ℕ) = fun _ => 0 := by funext i; fin_cases i <;> rfl

section Parts

variable (K : GSem nD τ sig → ℕ) (c : Dev nD)

/-- Part 1: the signals to peers 0 to 5. -/
theorem part1Run (W : Waits sig Unit) (O : CellTallies nD τ sig Unit) (Q : _ → sProp 𝕄) :
    iprop(invs P K ∗ owes (c : Thread nD τ) (O + Ob 0 c) W ∗ bigSep (rem 0 c) (fA c)
        ∗ ((owes (c : Thread nD τ) (O + Ob 6 c) W ∗ bigSep (rem 6 c) (fA c)) -∗ ∀ v12, Q ⟨c, v12, SemArray.scalar (sig.barrier 0 rfl), 6#32⟩))
      ⊢ wp frame (wpE (defs₀ (F := F)) 𝒱₀ c none) Set.univ
          (k0_part1 (F := F) xM (Memref.isWhole_whole _) yM (Memref.isWhole_whole _) oM (Memref.isWhole_whole _) partM (Memref.isWhole_whole _)
            commM (Memref.isWhole_whole _) cc0_scratch2 cc0_scratch3) Q := by
  rw [k0_part1_eq_skeleton]; unfold k0_part1_skel
  rw [wp_dev_bind]
  extract_lets -merge _ _ _ _ _ _ _ _ _ _ _ _ v12 v13 j6 j5 j4 j3 j2 j1
  iintro ⟨#HI, HO, HA, Hk⟩
  iapply (stepA P K c 0 W O ((by decide +kernel : ∀ c : Dev nD, k0_cond1 c = 1#1 ↔ (0 : Dev nD) ≠ c) c) (fun h => Fin.ext k0_dev1_eq) j1)
  isplitr; · iexact HI
  isplitl [HO]; · iexact HO
  isplitl [HA]; · iexact HA
  iintro ⟨HO, HA⟩
  simp only [j1]
  iapply (stepA P K c 1 W O ((by decide +kernel : ∀ c : Dev nD, k0_cond2 c = 1#1 ↔ (1 : Dev nD) ≠ c) c) (fun h => Fin.ext k0_dev2_eq) j2)
  isplitr; · iexact HI
  isplitl [HO]; · iexact HO
  isplitl [HA]; · iexact HA
  iintro ⟨HO, HA⟩
  simp only [j2]
  iapply (stepA P K c 2 W O ((by decide +kernel : ∀ c : Dev nD, k0_cond3 c = 1#1 ↔ (2 : Dev nD) ≠ c) c) (fun h => Fin.ext k0_dev3_eq) j3)
  isplitr; · iexact HI
  isplitl [HO]; · iexact HO
  isplitl [HA]; · iexact HA
  iintro ⟨HO, HA⟩
  simp only [j3]
  iapply (stepA P K c 3 W O ((by decide +kernel : ∀ c : Dev nD, k0_cond4 c = 1#1 ↔ (3 : Dev nD) ≠ c) c) (fun h => Fin.ext k0_dev4_eq) j4)
  isplitr; · iexact HI
  isplitl [HO]; · iexact HO
  isplitl [HA]; · iexact HA
  iintro ⟨HO, HA⟩
  simp only [j4]
  iapply (stepA P K c 4 W O ((by decide +kernel : ∀ c : Dev nD, k0_cond5 c = 1#1 ↔ (4 : Dev nD) ≠ c) c) (fun h => Fin.ext k0_dev5_eq) j5)
  isplitr; · iexact HI
  isplitl [HO]; · iexact HO
  isplitl [HA]; · iexact HA
  iintro ⟨HO, HA⟩
  simp only [j5]
  iapply (stepA P K c 5 W O ((by decide +kernel : ∀ c : Dev nD, k0_cond6 c = 1#1 ↔ (5 : Dev nD) ≠ c) c) (fun h => Fin.ext k0_dev6_eq) j6)
  isplitr; · iexact HI
  isplitl [HO]; · iexact HO
  isplitl [HA]; · iexact HA
  iintro ⟨HO, HA⟩
  simp only [j6, Prog.pure_eq_ret]
  rw [wp_ret]; imodintro
  ispecialize Hk $$ [HO HA]
  · isplitl [HO]; · iexact HO
    iexact HA
  iapply Hk

/-- Part 2: the signals to peers 6 and 7, the partial block. -/
theorem part2Run (W : Waits sig Unit) (O : CellTallies nD τ sig Unit) (xs ys : S256x1024.Idx → Elt F .f32) (v12 w6) (Q : PUnit → sProp 𝕄) :
    iprop(invs P K ∗ owes (c : Thread nD τ) (O + Ob 6 c) W ∗ bigSep (rem 6 c) (fA c)
        ∗ (xM.view.loc (c : Thread nD τ) ↦{fullShare} xs) ∗ (yM.view.loc (c : Thread nD τ) ↦{fullShare} ys) ∗ (∃ f, partM.view.loc (c : Thread nD τ) ↦{fullShare} f)
        ∗ ((owes (c : Thread nD τ) O W
            ∗ (xM.view.loc (c : Thread nD τ) ↦{fullShare} xs) ∗ (yM.view.loc (c : Thread nD τ) ↦{fullShare} ys) ∗ (partM.view.loc (c : Thread nD τ) ↦{fullShare} partOf xs ys)) -∗ Q ⟨⟩))
      ⊢ wp frame (wpE (defs₀ (F := F)) 𝒱₀ c none) Set.univ
          (k0_part2 (F := F) xM (Memref.isWhole_whole _) yM (Memref.isWhole_whole _) oM (Memref.isWhole_whole _) partM (Memref.isWhole_whole _)
            commM (Memref.isWhole_whole _) cc0_scratch2 cc0_scratch3 c v12 (SemArray.scalar (sig.barrier 0 rfl)) w6) Q := by
  rw [k0_part2_eq_skeleton]; unfold k0_part2_skel
  extract_lets -merge j8 j7
  iintro ⟨#HI, HO, HA, Hx, Hy, ⟨%f, Hp⟩, Hk⟩
  iapply (stepA P K c 6 W O ((by decide +kernel : ∀ c : Dev nD, k0_cond7 c = 1#1 ↔ (6 : Dev nD) ≠ c) c) (fun h => Fin.ext k0_dev7_eq) j7)
  isplitr; · iexact HI
  isplitl [HO]; · iexact HO
  isplitl [HA]; · iexact HA
  iintro ⟨HO, HA⟩
  simp only [j7]
  iapply (stepA P K c 7 W O ((by decide +kernel : ∀ c : Dev nD, k0_cond8 c = 1#1 ↔ (7 : Dev nD) ≠ c) c) (fun h => Fin.ext k0_dev8_eq) j8)
  isplitr; · iexact HI
  isplitl [HO]; · iexact HO
  isplitl [HA]; · iexact HA
  iintro ⟨HO, HA⟩
  iclear HA
  rw [show O + Ob ((7 : Dev nD).val + 1) c = O from (congrArg (O + ·) (Ob_last c)).trans (add_zero O)]
  simp only [j8]
  rw [wp_lift_bind]
  iapply (wp_load 𝒱₀ (c : Thread nD τ) none Set.univ (m := xM) (Finset.subset_univ _)) $$ Hx; iintro Hx
  rw [wp_lift_bind]
  iapply (wp_load 𝒱₀ (c : Thread nD τ) none Set.univ (m := yM) (Finset.subset_univ _)) $$ Hy; iintro Hy
  rw [show (xM : Memref sig .tc .vmem S256x1024 .f32).view.readAt (Elt F) (Rect.unit (s := S256x1024) ![0, 0] S256x1024.size inb_S256x1024_S256x1024_0_0).toLoadRect xs = xs from Memref.readAt_unit_zero (Elt F) cc0_stg0_0 hz2 _ xs,
    show (yM : Memref sig .tc .vmem S256x1024 .f32).view.readAt (Elt F) (Rect.unit (s := S256x1024) ![0, 0] S256x1024.size inb_S256x1024_S256x1024_0_0).toLoadRect ys = ys from Memref.readAt_unit_zero (Elt F) cc0_stg1_0 hz2 _ ys]
  rw [wp_lift_bind]
  iapply (wp_load 𝒱₀ (c : Thread nD τ) none Set.univ (m := partM) (Finset.subset_univ _)) $$ Hp; iintro Hp
  rw [wp_lift_bind]
  iapply (wp_store 𝒱₀ (c : Thread nD τ) none Set.univ (m := partM) (r := row0) (Mk := Finset.univ) (Finset.subset_univ _)) $$ Hp; iintro Hp
  rw [wp_lift_bind]
  iapply (wp_load 𝒱₀ (c : Thread nD τ) none Set.univ (m := partM) (Finset.subset_univ _)) $$ Hp; iintro Hp
  rw [wp_lift_bind]
  iapply (wp_store 𝒱₀ (c : Thread nD τ) none Set.univ (m := partM) (r := row1) (Mk := Finset.univ) (Finset.subset_univ _)) $$ Hp; iintro Hp
  rw [stored_part]
  simp only [Prog.pure_eq_ret]
  rw [wp_ret]; imodintro
  iapply Hk
  isplitl [HO]; · iexact HO
  isplitl [Hx]; · iexact Hx
  isplitl [Hy]; · iexact Hy
  iexact Hp

/-- What part 3 needs for peer `p` beside what the barrier hands over. -/
def fB' (p : Dev nD) : sProp 𝕄 :=
  iprop(dutyTok ER (sendCell c p) 0 p ∗ reached ER (sendCell c p) 0 ∗ dutyTok ER (recvCell p c) 0 c)

theorem fB_intro (p : Dev nD) : iprop(fB' (F := F) c p ∗ partPts P c (lend p) ∗ readyPay (F := F) p c) ⊢ fB P c p := by
  unfold fB fB' readyPay
  iintro ⟨⟨H1, H2, H3⟩, H4, H5⟩
  isplitl [H4]; · iexact H4
  isplitl [H5]; · iexact H5
  isplitl [H1]; · iexact H1
  isplitl [H2]; · iexact H2
  iexact H3
theorem fB_all : iprop(bigSep (rem 0 c) (fB' (F := F) c) ∗ bigSep (rem 0 c) (fun p => partPts P c (lend p)) ∗ bigSep (rem 0 c) (fun p => readyPay (F := F) p c))
    ⊢ bigSep (rem 0 c) (fB P c) := by
  iintro ⟨H1, H2, H3⟩
  iapply (show (bigSep (rem 0 c) fun p => iprop(fB' (F := F) c p ∗ partPts P c (lend p) ∗ readyPay (F := F) p c)) ⊢ bigSep (rem 0 c) (fB P c) from bigSep_mono fun p _ => fB_intro P c p)
  iapply bigSep_pair; isplitl [H1]; · iexact H1
  iapply bigSep_pair; isplitl [H2]; · iexact H2
  iexact H3

set_option maxHeartbeats 1000000 in
/-- Part 3: the wait for the seven units, the copies. -/
theorem part3Run (W : Waits sig Unit) (v12) (v13 : Sems sig S_) (hv : v13.sem = barS) (Q : PUnit → sProp 𝕄) :
    iprop(invs P K ∗ levAts L lv ∗ owes (c : Thread nD τ) (Or 0 c) W ∗ cred (tallyAt (barCell c) () 7) ∗ atPos ER (barCell c) 0 ∅ 0
        ∗ bigSep (rem 0 c) (fB' c) ∗ bigSep (rem 0 c) (fun p => partPts P c (lend p))
        ∗ (((∃ W, owes (c : Thread nD τ) (0 : CellTallies nD τ sig Unit) W) ∗ semVal (barCell c) 0
            ∗ bigSep (rem 0 c) (fun p => cred (tallyAt (sendCell c p) () N))) -∗ Q ⟨⟩))
      ⊢ wp frame (wpE (defs₀ (F := F)) 𝒱₀ c none) Set.univ
          (k0_part3 (F := F) xM (Memref.isWhole_whole _) yM (Memref.isWhole_whole _) oM (Memref.isWhole_whole _) partM (Memref.isWhole_whole _)
            commM (Memref.isWhole_whole _) cc0_scratch2 cc0_scratch3 c v12 v13) Q := by
  rw [k0_part3_eq_skeleton]; unfold k0_part3_skel
  rw [hv, wp_wait_bind]
  iintro ⟨#HI, #Hlev, HO, Hcb, Hab, HB, HP, Hk⟩
  iapply (Rounds.wp_wait_rest_token 𝒱₀ ER (rd P) (c : Thread nD τ) none (κ := K (barCell c))
      (wpE_semWait_eq 𝒱₀ (c : Thread nD τ) none Set.univ) (Set.mem_univ _) () (O := Or 0 c) (W := W) (R := 0) (m := 0) (T := ∅)
      (by rw [expect_bar]; decide)) $$ [Hcb HO Hab]
  · isplitr; · iapply (invs_get P K (bar_mem c)); iexact HI
    isplitl [Hcb]; · iexact Hcb
    isplitl [HO]; · iexact HO
    isplitr; · iapply (mayWait_bar c); iexact Hlev
    iexact Hab
  iintro ⟨HO, Hab, -, Hpay⟩
  ihave Hr := (Entails.of_eq ((rest_bar P c).trans (congrArg (fun s => bigSep s _) (rem_zero c).symm))) $$ Hpay
  imod (close P (K (barCell c)) (barCell c)) $$ [Hab] with Hzb
  · isplitr; · iapply (invs_get P K (bar_mem c)); iexact HI
    iexact Hab
  ihave HB := (fB_all P c) $$ [HB HP Hr]
  · isplitl [HB]; · iexact HB
    isplitl [HP]; · iexact HP
    iexact Hr
  ihave HD := (show (emp : sProp 𝕄) ⊢ bigSep (don 0 c) (fun p => cred (tallyAt (sendCell c p) () N)) from by rw [don_zero, bigSep_empty]; exact BI.Entails.refl _) $$ []
  · iempintro
  extract_lets -merge j16 _ _ j15 _ _ j14 _ _ j13 _ _ j12 _ _ j11 _ _ j10 _ _ j9 _ _
  iapply (stepB P K c 0 _ ((by decide +kernel : ∀ c : Dev nD, k0_cond9 c = 1#1 ↔ (0 : Dev nD) ≠ c) c) (fun h => Fin.ext k0_dev9_eq) rfl (off3_of (k0_off2_eq c)) (off1_of (k0_off1_eq c)) j9)
  isplitr; · iexact HI
  isplitl [HO]; · iexact HO
  isplitl [HB]; · iexact HB
  isplitl [HD]; · iexact HD
  iintro ⟨HO, HB, HD⟩
  simp only [j9]
  iapply (stepB P K c 1 _ ((by decide +kernel : ∀ c : Dev nD, k0_cond10 c = 1#1 ↔ (1 : Dev nD) ≠ c) c) (fun h => Fin.ext k0_dev10_eq) rfl (off3_of (k0_off4_eq c)) (off1_of (k0_off3_eq c)) j10)
  isplitr; · iexact HI
  isplitl [HO]; · iexact HO
  isplitl [HB]; · iexact HB
  isplitl [HD]; · iexact HD
  iintro ⟨HO, HB, HD⟩
  simp only [j10]
  iapply (stepB P K c 2 _ ((by decide +kernel : ∀ c : Dev nD, k0_cond11 c = 1#1 ↔ (2 : Dev nD) ≠ c) c) (fun h => Fin.ext k0_dev11_eq) rfl (off3_of (k0_off6_eq c)) (off1_of (k0_off5_eq c)) j11)
  isplitr; · iexact HI
  isplitl [HO]; · iexact HO
  isplitl [HB]; · iexact HB
  isplitl [HD]; · iexact HD
  iintro ⟨HO, HB, HD⟩
  simp only [j11]
  iapply (stepB P K c 3 _ ((by decide +kernel : ∀ c : Dev nD, k0_cond12 c = 1#1 ↔ (3 : Dev nD) ≠ c) c) (fun h => Fin.ext k0_dev12_eq) rfl (off3_of (k0_off8_eq c)) (off1_of (k0_off7_eq c)) j12)
  isplitr; · iexact HI
  isplitl [HO]; · iexact HO
  isplitl [HB]; · iexact HB
  isplitl [HD]; · iexact HD
  iintro ⟨HO, HB, HD⟩
  simp only [j12]
  iapply (stepB P K c 4 _ ((by decide +kernel : ∀ c : Dev nD, k0_cond13 c = 1#1 ↔ (4 : Dev nD) ≠ c) c) (fun h => Fin.ext k0_dev13_eq) rfl (off3_of (k0_off10_eq c)) (off1_of (k0_off9_eq c)) j13)
  isplitr; · iexact HI
  isplitl [HO]; · iexact HO
  isplitl [HB]; · iexact HB
  isplitl [HD]; · iexact HD
  iintro ⟨HO, HB, HD⟩
  simp only [j13]
  iapply (stepB P K c 5 _ ((by decide +kernel : ∀ c : Dev nD, k0_cond14 c = 1#1 ↔ (5 : Dev nD) ≠ c) c) (fun h => Fin.ext k0_dev14_eq) rfl (off3_of (k0_off12_eq c)) (off1_of (k0_off11_eq c)) j14)
  isplitr; · iexact HI
  isplitl [HO]; · iexact HO
  isplitl [HB]; · iexact HB
  isplitl [HD]; · iexact HD
  iintro ⟨HO, HB, HD⟩
  simp only [j14]
  iapply (stepB P K c 6 _ ((by decide +kernel : ∀ c : Dev nD, k0_cond15 c = 1#1 ↔ (6 : Dev nD) ≠ c) c) (fun h => Fin.ext k0_dev15_eq) rfl (off3_of (k0_off14_eq c)) (off1_of (k0_off13_eq c)) j15)
  isplitr; · iexact HI
  isplitl [HO]; · iexact HO
  isplitl [HB]; · iexact HB
  isplitl [HD]; · iexact HD
  iintro ⟨HO, HB, HD⟩
  simp only [j15]
  iapply (stepB P K c 7 _ ((by decide +kernel : ∀ c : Dev nD, k0_cond16 c = 1#1 ↔ (7 : Dev nD) ≠ c) c) (fun h => Fin.ext k0_dev16_eq) rfl (off3_of (k0_off16_eq c)) (off1_of (k0_off15_eq c)) j16)
  isplitr; · iexact HI
  isplitl [HO]; · iexact HO
  isplitl [HB]; · iexact HB
  isplitl [HD]; · iexact HD
  iintro ⟨HO, HB, HD⟩
  simp only [j16, Prog.pure_eq_ret]
  rw [wp_ret]; imodintro
  rw [show Or ((7 : Dev nD).val + 1) c = 0 from Or_last c, show don ((7 : Dev nD).val + 1) c = rem 0 c from rem_don c]
  iapply Hk
  isplitl [HO]; · iexists _; iexact HO
  isplitl [Hzb]; · iexact Hzb
  iexact HD

/-- What part 4 needs for peer `p` beside the credit of the own copy. -/
def fC' (p : Dev nD) : sProp 𝕄 :=
  iprop(cred (tallyAt (recvCell c p) () N) ∗ atPos ER (recvCell c p) 0 ∅ 0 ∗ atPos ER (sendCell c p) 0 ∅ 0)

set_option maxHeartbeats 1000000 in
/-- Part 4: the own slot, the waits for peers 0 to 4. -/
theorem part4Run (v12) (Q : BitVec 32 → sProp 𝕄) :
    iprop(invs P K ∗ (∃ W, owes (c : Thread nD τ) (0 : CellTallies nD τ sig Unit) W) ∗ partPts P c (lend c) ∗ (∃ f, slotPts (F := F) c c f)
        ∗ bigSep (rem 0 c) (fC (F := F) c)
        ∗ (((∃ W, owes (c : Thread nD τ) (0 : CellTallies nD τ sig Unit) W) ∗ partPts P c (lend c) ∗ slotPts c c (commAll P)
            ∗ bigSep (rem 5 c) (fC (F := F) c) ∗ bigSep (don 5 c) (gC P c)) -∗ Q 5#32))
      ⊢ wp frame (wpE (defs₀ (F := F)) 𝒱₀ c none) Set.univ
          (k0_part4 (F := F) xM (Memref.isWhole_whole _) yM (Memref.isWhole_whole _) oM (Memref.isWhole_whole _) partM (Memref.isWhole_whole _)
            commM (Memref.isWhole_whole _) cc0_scratch2 cc0_scratch3 c v12) Q := by
  rw [k0_part4_eq_skeleton]; unfold k0_part4_skel
  iintro ⟨#HI, HO, Hp, ⟨%f, Hs⟩, HC, Hk⟩
  rw [wp_lift_bind]
  unfold partPts slotPts
  iapply (wp_load 𝒱₀ (c : Thread nD τ) none Set.univ (m := partM) (S := (partM : Memref sig .tc .vmem S2x1024 .f32).view.set) (q := lend c)
    (by rw [View.set_whole]; exact Finset.subset_univ _)) $$ Hp; iintro Hp
  rw [show (partM : Memref sig .tc .vmem S2x1024 .f32).view.readAt (Elt F) (Rect.unit (s := S2x1024) ![0, 0] S2x1024.size inb_S2x1024_S2x1024_0_0).toLoadRect (P c) = P c from Memref.readAt_unit_zero (Elt F) cc0_scratch0 hz2 _ (P c)]
  rw [wp_lift_bind]
  have hset : ((commM : Memref sig .tc .vmem S8x2x1024 .f32).access (Rect.unit (s := S8x2x1024) (k0_off17 c) S1x2x1024.size (k0_off17_inb c))).set ⊆ (slotM c).view.set := by
    rw [slot_set, View.set_slice_whole]
    exact (congrArg (fun r : Rect S8x2x1024 => r.set) (Rect.unit_congr (s := S8x2x1024) (off17_eq c) (k0_off17_inb c) (slot_inb c))).subset
  iapply (wp_load_rect 𝒱₀ (c : Thread nD τ) none Set.univ (m := commM) (r := Rect.unit (s := S8x2x1024) (k0_off17 c) S1x2x1024.size (k0_off17_inb c)) (S := (slotM c).view.set) hset) $$ Hs; iintro Hs
  rw [wp_lift_bind]
  iapply (wp_store 𝒱₀ (c : Thread nD τ) none Set.univ (m := commM) (r := Rect.unit (s := S8x2x1024) (k0_off17 c) S1x2x1024.size (k0_off17_inb c)) (Mk := Finset.univ) (S := (slotM c).view.set)
    (by rw [View.setOn_univ]; exact hset)) $$ Hs; iintro Hs
  ihave Hs := (Entails.of_eq (stored_slot P c (off17_eq c) f)) $$ Hs
  unfold slotPts
  ihave HD := (show (emp : sProp 𝕄) ⊢ bigSep (don 0 c) (gC P c) from by rw [don_zero, bigSep_empty]; exact BI.Entails.refl _) $$ []
  · iempintro
  extract_lets -merge j21 _ _ _ _ _ _ j20 _ _ _ _ _ _ j19 _ _ _ _ _ _ j18 _ _ _ _ _ _ j17 _ _ _ _ _ _
  iapply (stepC P K c 0 ((by decide +kernel : ∀ c : Dev nD, k0_cond17 c = 1#1 ↔ (0 : Dev nD) ≠ c) c) rfl rfl (off3_of (k0_off18_eq c)) j17)
  isplitr; · iexact HI
  isplitl [HO]; · iexact HO
  isplitl [HC]; · iexact HC
  isplitl [HD]; · iexact HD
  iintro ⟨HO, HC, HD⟩
  simp only [j17]
  iapply (stepC P K c 1 ((by decide +kernel : ∀ c : Dev nD, k0_cond18 c = 1#1 ↔ (1 : Dev nD) ≠ c) c) rfl rfl (off3_of (k0_off19_eq c)) j18)
  isplitr; · iexact HI
  isplitl [HO]; · iexact HO
  isplitl [HC]; · iexact HC
  isplitl [HD]; · iexact HD
  iintro ⟨HO, HC, HD⟩
  simp only [j18]
  iapply (stepC P K c 2 ((by decide +kernel : ∀ c : Dev nD, k0_cond19 c = 1#1 ↔ (2 : Dev nD) ≠ c) c) rfl rfl (off3_of (k0_off20_eq c)) j19)
  isplitr; · iexact HI
  isplitl [HO]; · iexact HO
  isplitl [HC]; · iexact HC
  isplitl [HD]; · iexact HD
  iintro ⟨HO, HC, HD⟩
  simp only [j19]
  iapply (stepC P K c 3 ((by decide +kernel : ∀ c : Dev nD, k0_cond20 c = 1#1 ↔ (3 : Dev nD) ≠ c) c) rfl rfl (off3_of (k0_off21_eq c)) j20)
  isplitr; · iexact HI
  isplitl [HO]; · iexact HO
  isplitl [HC]; · iexact HC
  isplitl [HD]; · iexact HD
  iintro ⟨HO, HC, HD⟩
  simp only [j20]
  iapply (stepC P K c 4 ((by decide +kernel : ∀ c : Dev nD, k0_cond21 c = 1#1 ↔ (4 : Dev nD) ≠ c) c) rfl rfl (off3_of (k0_off22_eq c)) j21)
  isplitr; · iexact HI
  isplitl [HO]; · iexact HO
  isplitl [HC]; · iexact HC
  isplitl [HD]; · iexact HD
  iintro ⟨HO, HC, HD⟩
  simp only [j21, Prog.pure_eq_ret]
  rw [wp_ret]; imodintro
  iapply Hk
  isplitl [HO]; · iexact HO
  isplitl [Hp]; · iexact Hp
  isplitl [Hs]; · iexact Hs
  isplitl [HC]; · iexact HC
  iexact HD

end Parts

end Cert.KernelIdeal.Run

end
-- ==== Proof.KI.Body.lean ====
/-
The kernel's body on device `c` from one end to the other: its parts put together.
-/
module

public import proofs.«01_k».proof.Proof.KI.Parts

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (P : Dev nD → S2x1024.Idx → Elt F .f32)

/-- What device `c` holds toward peer `p` when the body starts, once the cells are open. -/
def tk (c p : Dev nD) : sProp 𝕄 :=
  iprop(dutyTok ER (barCell p) 0 c ∗ reached ER (barCell p) 0 ∗ reached ER (recvCell c p) 0 ∗ fB' (F := F) c p
    ∗ (cred (tallyAt (recvCell c p) () N) ∗ atPos ER (recvCell c p) 0 ∅ 0 ∗ atPos ER (sendCell c p) 0 ∅ 0))

/-- The two counters of a pair after the body, back at zero. -/
def zeros (c p : Dev nD) : sProp 𝕄 := iprop(semVal (recvCell c p) 0 ∗ semVal (sendCell c p) 0)

section Body

variable (K : GSem nD τ sig → ℕ) (c : Dev nD)

theorem tk_split (p : Dev nD) : iprop(tk (F := F) c p ∗ (∃ f, slotPts (F := F) c p f)) ⊢ iprop(fA (F := F) c p ∗ fB' (F := F) c p ∗ fC' (F := F) c p) := by
  unfold tk fA fC'
  iintro ⟨⟨H1, H2, H3, H4, H5⟩, H6⟩
  isplitl [H1 H2 H3 H6]
  · isplitl [H1]; · iexact H1
    isplitl [H2]; · iexact H2
    isplitl [H6]; · iexact H6
    iexact H3
  isplitl [H4]; · iexact H4
  iexact H5
theorem tk_all : iprop(bigSep (rem 0 c) (tk (F := F) c) ∗ bigSep (rem 0 c) (fun p => iprop(∃ f, slotPts (F := F) c p f)))
    ⊢ iprop(bigSep (rem 0 c) (fA (F := F) c) ∗ bigSep (rem 0 c) (fB' (F := F) c) ∗ bigSep (rem 0 c) (fC' (F := F) c)) := by
  iintro H
  ihave H := bigSep_pair $$ H
  ihave H := (show (bigSep (rem 0 c) fun p => iprop(tk (F := F) c p ∗ (∃ f, slotPts (F := F) c p f)))
    ⊢ bigSep (rem 0 c) (fun p => iprop(fA (F := F) c p ∗ fB' (F := F) c p ∗ fC' (F := F) c p)) from bigSep_mono fun p _ => tk_split c p) $$ H
  ihave H := bigSep_unpair $$ H; icases H with ⟨HA, H⟩
  ihave H := bigSep_unpair $$ H; icases H with ⟨HB, HC⟩
  isplitl [HA]; · iexact HA
  isplitl [HB]; · iexact HB
  iexact HC

theorem fC_intro (p : Dev nD) : iprop(fC' (F := F) c p ∗ cred (tallyAt (sendCell c p) () N)) ⊢ fC (F := F) c p := by
  unfold fC fC'
  iintro ⟨⟨H1, H2, H3⟩, H4⟩
  isplitl [H1]; · iexact H1
  isplitl [H2]; · iexact H2
  isplitl [H4]; · iexact H4
  iexact H3
theorem fC_all : iprop(bigSep (rem 0 c) (fC' (F := F) c) ∗ bigSep (rem 0 c) (fun p => (cred (tallyAt (sendCell c p) () N) : sProp 𝕄)))
    ⊢ bigSep (rem 0 c) (fC (F := F) c) := by
  iintro H
  ihave H := bigSep_pair $$ H
  iapply (show (bigSep (rem 0 c) fun p => iprop(fC' (F := F) c p ∗ cred (tallyAt (sendCell c p) () N))) ⊢ bigSep (rem 0 c) (fC (F := F) c) from bigSep_mono fun p _ => fC_intro c p) $$ H

theorem gC_elim (p : Dev nD) : gC P c p ⊢ iprop(slotPts c p (commAll P) ∗ partPts P c (lend p) ∗ zeros (F := F) c p) := by
  unfold gC zeros
  iintro H; iexact H
/-- Every slot landed and every share back: both buffers whole, every counter at zero. -/
theorem gC_all : iprop(bigSep (rem 0 c) (gC P c) ∗ slotPts c c (commAll P) ∗ partPts P c (lend c))
    ⊢ iprop((commM.view.loc (c : Thread nD τ) ↦{fullShare} commAll P) ∗ (partM.view.loc (c : Thread nD τ) ↦{fullShare} P c) ∗ bigSep (rem 0 c) (zeros (F := F) c)) := by
  rw [comm_slots c (commAll P), part_shares P c, bigSep_own c, bigSep_own c (fun p => partPts P c (lend p))]
  iintro ⟨H, Hs, Hp⟩
  ihave H := (show bigSep (rem 0 c) (gC P c) ⊢ bigSep (rem 0 c) (fun p => iprop(slotPts c p (commAll P) ∗ partPts P c (lend p) ∗ zeros (F := F) c p)) from
    bigSep_mono fun p _ => gC_elim P c p) $$ H
  ihave H := bigSep_unpair $$ H; icases H with ⟨HA, H⟩
  ihave H := bigSep_unpair $$ H; icases H with ⟨HB, HC⟩
  isplitl [Hs HA]
  · isplitl [Hs]; · iexact Hs
    iexact HA
  isplitl [Hp HB]
  · isplitl [Hp]; · iexact Hp
    iexact HB
  iexact HC

theorem slots_any (f : S8x2x1024.Idx → Elt F .f32) :
    (commM.view.loc (c : Thread nD τ) ↦{fullShare} f : sProp 𝕄) ⊢ iprop((∃ f, slotPts (F := F) c c f) ∗ bigSep (rem 0 c) (fun p => iprop(∃ f, slotPts (F := F) c p f))) := by
  rw [comm_slots c f, bigSep_own c]
  iintro ⟨H1, H2⟩
  isplitl [H1]; · iexists f; iexact H1
  iapply (show (bigSep (rem 0 c) fun p => (slotPts c p f : sProp 𝕄)) ⊢ bigSep (rem 0 c) (fun p => iprop(∃ f, slotPts (F := F) c p f)) from
    bigSep_mono fun p _ => exists_intro (Φ := fun f => slotPts (F := F) c p f) f) $$ H2

/-- The stored partial block is the device's own share of it and the seven it lends. -/
theorem part_own (xs ys : S256x1024.Idx → Elt F .f32) (hP : P c = partOf xs ys) :
    (partM.view.loc (c : Thread nD τ) ↦{fullShare} partOf xs ys : sProp 𝕄) = iprop(partPts P c (lend c) ∗ bigSep (rem 0 c) (fun p => partPts P c (lend p))) := by
  rw [← hP]; exact (part_shares P c).trans (bigSep_own c _)

/-- The whole scratch contents a load reads back. -/
theorem read_comm (f : S8x2x1024.Idx → Elt F .f32) :
    (commM : Memref sig .tc .vmem S8x2x1024 .f32).view.readAt (Elt F) (Rect.unit (s := S8x2x1024) ![0, 0, 0] S8x2x1024.size inb_S8x2x1024_S8x2x1024_0_0_0).toLoadRect f = f :=
  Memref.readAt_unit_zero (Elt F) cc0_scratch1 hz3 _ f

set_option maxHeartbeats 1000000 in
/-- The body, run once on device `c`: its result block ends holding the sum of the eight partial blocks, both scratch
    buffers and the two input blocks are held again, and every counter it used is back at zero. -/
theorem bodyRun (W : Waits sig Unit) (xs ys : S256x1024.Idx → Elt F .f32) (hP : P c = partOf xs ys) (Q : PUnit → sProp 𝕄) :
    iprop(invs P K ∗ levAts L lv ∗ owes (c : Thread nD τ) (O₀ c) W ∗ cred (tallyAt (barCell c) () 7) ∗ atPos ER (barCell c) 0 ∅ 0
        ∗ bigSep (rem 0 c) (tk (F := F) c)
        ∗ (xM.view.loc (c : Thread nD τ) ↦{fullShare} xs) ∗ (yM.view.loc (c : Thread nD τ) ↦{fullShare} ys)
        ∗ (∃ f, oM.view.loc (c : Thread nD τ) ↦{fullShare} f)
        ∗ (∃ f, partM.view.loc (c : Thread nD τ) ↦{fullShare} f) ∗ (∃ f, commM.view.loc (c : Thread nD τ) ↦{fullShare} f)
        ∗ (((∃ W, owes (c : Thread nD τ) (0 : CellTallies nD τ sig Unit) W) ∗ semVal (barCell c) 0 ∗ bigSep (rem 0 c) (zeros (F := F) c)
            ∗ (xM.view.loc (c : Thread nD τ) ↦{fullShare} xs) ∗ (yM.view.loc (c : Thread nD τ) ↦{fullShare} ys)
            ∗ (oM.view.loc (c : Thread nD τ) ↦{fullShare} k0_pay1 (commAll P))
            ∗ (∃ f, partM.view.loc (c : Thread nD τ) ↦{fullShare} f) ∗ (∃ f, commM.view.loc (c : Thread nD τ) ↦{fullShare} f)) -∗ Q ⟨⟩))
      ⊢ wp frame (wpE (defs₀ (F := F)) 𝒱₀ c none) Set.univ
          (cc0_body (F := F) xM (Memref.isWhole_whole _) yM (Memref.isWhole_whole _) oM (Memref.isWhole_whole _) partM (Memref.isWhole_whole _)
            commM (Memref.isWhole_whole _) cc0_scratch2 cc0_scratch3) Q := by
  rw [cc0_body_eq_skeleton]; unfold cc0_body_skel
  iintro ⟨#HI, #Hlev, HO, Hcb, Hab, HT, Hx, Hy, ⟨%o, Ho⟩, Hp, ⟨%f, Hs⟩, Hk⟩
  ihave Hs := (slots_any c f) $$ Hs; icases Hs with ⟨Hown, Hs⟩
  ihave HT := (tk_all (F := F) c) $$ [HT Hs]
  · isplitl [HT]; · iexact HT
    iexact Hs
  icases HT with ⟨HA, HB, HC⟩
  rw [wp_bind]
  iapply (part1Run P K c W (Or 0 c))
  isplitr; · iexact HI
  isplitl [HO]; · iexact HO
  isplitl [HA]; · iexact HA
  iintro ⟨HO, HA⟩ %v12
  dsimp -zeta only
  rw [wp_bind]
  iapply (part2Run P K c W (Or 0 c) xs ys v12 6#32)
  isplitr; · iexact HI
  isplitl [HO]; · iexact HO
  isplitl [HA]; · iexact HA
  isplitl [Hx]; · iexact Hx
  isplitl [Hy]; · iexact Hy
  isplitl [Hp]; · iexact Hp
  iintro ⟨HO, Hx, Hy, Hp⟩
  ihave Hp := (Entails.of_eq (part_own P c xs ys hP)) $$ Hp
  icases Hp with ⟨Hp, Hps⟩
  rw [wp_bind]
  iapply (part3Run P K c W v12 (SemArray.scalar (sig.barrier 0 rfl)) rfl)
  isplitr; · iexact HI
  isplitr; · iexact Hlev
  isplitl [HO]; · iexact HO
  isplitl [Hcb]; · iexact Hcb
  isplitl [Hab]; · iexact Hab
  isplitl [HB]; · iexact HB
  isplitl [Hps]; · iexact Hps
  iintro ⟨HO, Hzb, Hcs⟩
  ihave HC := (fC_all (F := F) c) $$ [HC Hcs]
  · isplitl [HC]; · iexact HC
    iexact Hcs
  rw [wp_bind]
  iapply (part4Run P K c v12)
  isplitr; · iexact HI
  isplitl [HO]; · iexact HO
  isplitl [Hp]; · iexact Hp
  isplitl [Hown]; · iexact Hown
  isplitl [HC]; · iexact HC
  iintro ⟨HO, Hp, Hown, HC, HD⟩
  extract_lets -merge j24 _ _ _ _ _ _ j23 _ _ _ _ _ _ j22 _ _ _ _ _ _
  iapply (stepC P K c 5 ((by decide +kernel : ∀ c : Dev nD, k0_cond22 c = 1#1 ↔ (5 : Dev nD) ≠ c) c) rfl rfl (off3_of (k0_off23_eq c)) j22)
  isplitr; · iexact HI
  isplitl [HO]; · iexact HO
  isplitl [HC]; · iexact HC
  isplitl [HD]; · iexact HD
  iintro ⟨HO, HC, HD⟩
  simp only [j22]
  iapply (stepC P K c 6 ((by decide +kernel : ∀ c : Dev nD, k0_cond23 c = 1#1 ↔ (6 : Dev nD) ≠ c) c) rfl rfl (off3_of (k0_off24_eq c)) j23)
  isplitr; · iexact HI
  isplitl [HO]; · iexact HO
  isplitl [HC]; · iexact HC
  isplitl [HD]; · iexact HD
  iintro ⟨HO, HC, HD⟩
  simp only [j23]
  iapply (stepC P K c 7 ((by decide +kernel : ∀ c : Dev nD, k0_cond24 c = 1#1 ↔ (7 : Dev nD) ≠ c) c) rfl rfl (off3_of (k0_off25_eq c)) j24)
  isplitr; · iexact HI
  isplitl [HO]; · iexact HO
  isplitl [HC]; · iexact HC
  isplitl [HD]; · iexact HD
  iintro ⟨HO, HC, HD⟩
  iclear HC
  rw [show don ((7 : Dev nD).val + 1) c = rem 0 c from rem_don c]
  ihave H := (gC_all P c) $$ [HD Hown Hp]
  · isplitl [HD]; · iexact HD
    isplitl [Hown]; · iexact Hown
    iexact Hp
  icases H with ⟨Hs, Hp, Hz⟩
  simp only [j24]
  rw [wp_lift_bind]
  iapply (wp_load 𝒱₀ (c : Thread nD τ) none Set.univ (m := commM) (Finset.subset_univ _)) $$ Hs; iintro Hs
  rw [read_comm]
  rw [wp_lift_bind]
  iapply (wp_load 𝒱₀ (c : Thread nD τ) none Set.univ (m := oM) (Finset.subset_univ _)) $$ Ho; iintro Ho
  rw [wp_lift_bind]
  iapply (wp_store 𝒱₀ (c : Thread nD τ) none Set.univ (m := oM) (r := Rect.unit (s := S2x1024) ![0, 0] S2x1024.size inb_S2x1024_S2x1024_0_0) (Mk := Finset.univ) (Finset.subset_univ _)) $$ Ho; iintro Ho
  rw [show ((oM : Memref sig .tc .vmem S2x1024 .f32).access (Rect.unit (s := S2x1024) ![0, 0] S2x1024.size inb_S2x1024_S2x1024_0_0)).write (Elt F) o (k0_pay1 (commAll P)) Finset.univ
    = k0_pay1 (commAll P) from Memref.write_access_unit_zero_univ (Elt F) cc0_stg2_0 hz2 _ o _]
  simp only [Prog.pure_eq_ret]
  rw [wp_ret]; imodintro
  iapply Hk
  isplitl [HO]; · iexact HO
  isplitl [Hzb]; · iexact Hzb
  isplitl [Hz]; · iexact Hz
  isplitl [Hx]; · iexact Hx
  isplitl [Hy]; · iexact Hy
  isplitl [Ho]; · iexact Ho
  isplitl [Hp]; · iexists _; iexact Hp
  iexists _; iexact Hs

end Body

end Cert.KernelIdeal.Run

end
-- ==== Proof.KI.Region.lean ====
module

public import proofs.«01_k».proof.Proof.KI.Body
public import Idealize.ShloMosaic.Lib.Pipeline.ValueKit

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The contents -/

/-- The rows of `x` and of `dy` that device `c` works on. -/
abbrev xs (c : Dev nD) : S256x1024.Idx → Elt F .f32 := V1 m c main_v15
abbrev ys (c : Dev nD) : S256x1024.Idx → Elt F .f32 := V1 m c main_v19

/-- Device `c`'s partial block. -/
def part (c : Dev nD) : S2x1024.Idx → Elt F .f32 := partOf (xs m c) (ys m c)

/-- What every device ends with: the sum of the eight partial blocks. -/
def res : S2x1024.Idx → Elt F .f32 := k0_pay1 (commAll (part m))

/-- The valuation after the region: the result buffer at `res`. -/
def outs : Outs (F := F) := fun _ r c => Function.update (V1 m c) main_v20 (res m) r

theorem V2_out (c : Dev nD) : V2 m (outs m) c main_v20 = res m := by
  show Function.update _ _ _ _ = _
  rw [Function.update_self]
  show Function.update _ _ _ _ = _
  rw [Function.update_self]

/-! ## The region's own semaphores -/

/-- The receive and send semaphores of the eight peers. -/
abbrev osem : Dev nD × Fin 2 → SemLoc sig := fun x => if x.2 = 0 then .dma (recvS x.1) else .dma (sendS x.1)

theorem ownSemFacts : Pipeline.OwnSemFacts spec0 osem := by decide +kernel

theorem ownSems_eq (c : Dev nD) : (Pipeline.ownSems0 osem c : sProp 𝕄) = iprop(zeros (F := F) c c ∗ bigSep (rem 0 c) (zeros (F := F) c)) := by
  rw [← bigSep_own c (zeros (F := F) c)]
  unfold Pipeline.ownSems0
  rw [BI.bigSep_univ_prod]
  exact bigSep_congr fun p _ => BI.bigSep_fin_two (fun k : Fin 2 => (semVal ((c : Thread nD τ), osem (p, k)) 0 : sProp 𝕄))

/-! ## Opening the pairs' cells -/

/-- The barrier cells are open. -/
def bars : sProp 𝕄 := bigSep Finset.univ fun p : Dev nD => (reached ER (barCell p) 0 : sProp 𝕄)
instance bars_persistent : BI.Persistent (bars (F := F)) := by unfold bars; infer_instance

theorem bars_get (p : Dev nD) : bars (F := F) ⊢ reached ER (barCell p) 0 := by unfold bars; exact bigSep_elim (Finset.mem_univ p)

/-- The tokens of the duties `c` pays for the pair `(c, p)`. -/
def payToks (c p : Dev nD) : sProp 𝕄 :=
  iprop(dutyTok ER (barCell p) 0 c ∗ dutyTok ER (sendCell c p) 0 p ∗ dutyTok ER (recvCell p c) 0 c)

/-- What launch leaves with `c` for the pair `(c, p)`. -/
def pairIn (c p : Dev nD) : sProp 𝕄 :=
  iprop((openTok ER (recvCell c p) ∗ openTok ER (sendCell c p)) ∗ payToks (F := F) c p ∗ cred (tallyAt (recvCell c p) () N))

theorem open_pair (K : GSem nD τ sig → ℕ) (c p : Dev nD) :
    iprop((invs (part m) K ∗ bars (F := F)) ∗ (pairIn (F := F) c p ∗ zeros (F := F) c p)) ⊢ (|={Set.univ}=> tk (F := F) c p : sProp 𝕄) := by
  unfold pairIn zeros payToks tk fB'
  iintro ⟨⟨#HI, #HB⟩, ⟨⟨HoR, HoS⟩, ⟨HtB, HtS, HtR⟩, Hc⟩, HvR, HvS⟩
  ihave #HIr := (invs_get (part m) K (recv_mem c p)) $$ HI
  ihave #HIs := (invs_get (part m) K (send_mem c p)) $$ HI
  ihave #HBp := (bars_get (F := F) p) $$ HB
  imod (Rounds.cell_open ER (rd (part m)) (g := recvCell c p) (Set.mem_univ (K (recvCell c p)))) $$ [HoR HvR] with ⟨HaR, #HrR⟩
  · isplitr; · iexact HIr
    isplitl [HoR] <;> iassumption
  imod (Rounds.cell_open ER (rd (part m)) (g := sendCell c p) (Set.mem_univ (K (sendCell c p)))) $$ [HoS HvS] with ⟨HaS, #HrS⟩
  · isplitr; · iexact HIs
    isplitl [HoS] <;> iassumption
  imodintro
  isplitl [HtB]; · iexact HtB
  isplitr; · iexact HBp
  isplitr; · iexact HrR
  isplitl [HtS HtR]
  · isplitl [HtS]; · iexact HtS
    isplitr; · iexact HrS
    iexact HtR
  isplitl [Hc]; · iexact Hc
  isplitl [HaR] <;> iassumption

/-- What launch leaves with `c`. -/
def Tk (c : Dev nD) : sProp 𝕄 :=
  iprop((∃ K, invs (part m) K) ∗ bars (F := F) ∗ atPos ER (barCell c) 0 ∅ 0 ∗ cred (tallyAt (barCell c) () 7) ∗ bigSep (rem 0 c) (pairIn (F := F) c))

/-- What enters the body. -/
def Xk (c : Dev nD) : sProp 𝕄 :=
  iprop((∃ K, invs (part m) K) ∗ levAts L lv ∗ atPos ER (barCell c) 0 ∅ 0 ∗ cred (tallyAt (barCell c) () 7) ∗ bigSep (rem 0 c) (tk (F := F) c) ∗ zeros (F := F) c c)

/-- What the region leaves beside its own semaphores. -/
def Yk (c : Dev nD) : sProp 𝕄 := semVal (barCell c) 0

theorem open_pairs (K : GSem nD τ sig → ℕ) (c : Dev nD) :
    iprop((invs (part m) K ∗ bars (F := F)) ∗ bigSep (rem 0 c) fun p => iprop(pairIn (F := F) c p ∗ zeros (F := F) c p))
      ⊢ (|={Set.univ}=> bigSep (rem 0 c) (tk (F := F) c) : sProp 𝕄) :=
  (bigSep_with_persistent fun p _ => open_pair m K c p).trans (bigSep_fupd _ _)

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%K, #HI⟩, #HB, Ha, Hc, Hp⟩, ⟨Hzc, Hz⟩, #Hlev⟩
  imod (open_pairs m K c) $$ [Hp Hz] with Ht
  · isplitr
    · isplitr; · iexact HI
      iexact HB
    iapply (Entails.of_eq (bigSep_sep' (rem 0 c) (pairIn (F := F) c) (zeros (F := F) c)).symm)
    isplitl [Hp] <;> iassumption
  imodintro
  isplitr; · iexists K; iexact HI
  isplitr; · iexact Hlev
  isplitl [Ha]; · iexact Ha
  isplitl [Hc]; · iexact Hc
  isplitl [Ht] <;> iassumption

/-! ## The proof data -/

/-- The two scratch buffers, at contents not chosen. -/
def scr (c : Dev nD) : sProp 𝕄 :=
  iprop((∃ f, partM.view.loc (c : Thread nD τ) ↦{fullShare} f) ∗ (∃ f, commM.view.loc (c : Thread nD τ) ↦{fullShare} f))

def Φ₀ (c : Dev nD) : sProp 𝕄 := iprop(Xk m c ∗ scr (F := F) c ∗ ∃ r, prngReg c r)
def Φ₁ (c : Dev nD) : sProp 𝕄 := iprop(semVal (barCell c) 0 ∗ Pipeline.ownSems0 osem c ∗ scr (F := F) c ∗ ∃ r, prngReg c r)

def dat (c : Dev nD) : Dat τ (Elt F) Unit ℕ UU ℕ cfg0 c where
  A w := V1 m c (Proc.devRef .tc (Pipeline.arrRef spec0 w))
  after w _ := match w with
    | ⟨0, _⟩ => xs m c
    | ⟨1, _⟩ => ys m c
    | ⟨2, _⟩ => res m
  Φ t := if t.val = 0 then Φ₀ m c else Φ₁ c
  q _ := fullShare
  owed t := if t.val = 0 then O₀ c else 0

def pdats (_ : Fin 1) (c : Dev nD) : Dat τ (Elt F) Unit ℕ UU ℕ cfg0 c := dat m c

theorem owes_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The first window's block is the whole array, element for element. -/
theorem emb_x (i : S256x1024.Idx) : (win0_0.blk t0_0).view.emb i = (i : S256x1024.Idx) := by
  funext a; apply Fin.ext
  exact Pipeline.Window.rect_emb_val_of_index_zero win0_0 t0_0 a rfl i
theorem emb_y (i : S256x1024.Idx) : (win0_1.blk t0_0).view.emb i = (i : S256x1024.Idx) := by
  funext a; apply Fin.ext
  exact Pipeline.Window.rect_emb_val_of_index_zero win0_1 t0_0 a rfl i

theorem before_x (c : Dev nD) (d) : (dat m c).before (0 : Fin 3) t0_0 d = xs m c := by
  unfold Dat.before; rw [if_pos (fetch0_0 t0_0)]
  refine (show _ = (win0_0.blk t0_0).view.read (Elt F) (V1 m c main_v15) from rfl).trans ?_
  funext i
  exact congrArg (V1 m c main_v15) (emb_x i)

theorem before_y (c : Dev nD) (d) : (dat m c).before (1 : Fin 3) t0_0 d = ys m c := by
  unfold Dat.before; rw [if_pos (fetch0_1 t0_0)]
  refine (show _ = (win0_1.blk t0_0).view.read (Elt F) (V1 m c main_v19) from rfl).trans ?_
  funext i
  exact congrArg (V1 m c main_v19) (emb_y i)

theorem final_out (c : Dev nD) : (dat m c).arrAt (2 : Fin 3) cfg0.N = res m := by
  refine (dat m c).arrAt_eq_of_after_last (2 : Fin 3) t0_0 (by decide +kernel) _ fun j => ?_
  rfl

theorem Φ_first (c : Dev nD) : (dat m c).Φ t0_0.castSucc = Φ₀ m c := by
  show (if (t0_0.castSucc : Fin (cfg0.N + 1)).val = 0 then Φ₀ m c else Φ₁ c) = _; exact if_pos rfl
theorem Φ_last (c : Dev nD) : (dat m c).Φ t0_0.succ = Φ₁ (F := F) c := by
  show (if (t0_0.succ : Fin (cfg0.N + 1)).val = 0 then Φ₀ m c else Φ₁ c) = _; exact if_neg (by decide)
theorem owed_first (c : Dev nD) : (dat m c).owed t0_0.castSucc = O₀ c := by
  show (if (t0_0.castSucc : Fin (cfg0.N + 1)).val = 0 then O₀ c else 0) = _; exact if_pos rfl
theorem owed_last (c : Dev nD) : (dat m c).owed t0_0.succ = 0 := by
  show (if (t0_0.succ : Fin (cfg0.N + 1)).val = 0 then O₀ c else 0) = _; exact if_neg (by decide)
theorem owes_intro (c : Dev nD) (W : Waits sig Unit) :
    (owes (c : Thread nD τ) (0 : CellTallies nD τ sig Unit) W : sProp 𝕄) ⊢ (dat m c).owesAt () t0_0.succ := by
  unfold Dat.owesAt Pipeline.owesWithin
  rw [owed_last]
  iintro HO; iexists W; isplitr; · ipureintro; exact fun _ _ => Or.inl trivial
  iexact HO
theorem owes_elim (c : Dev nD) :
    ((dat m c).owesAt () t0_0.castSucc : sProp 𝕄) ⊢ iprop(∃ W, owes (c : Thread nD τ) (O₀ c) W) := by
  unfold Dat.owesAt Pipeline.owesWithin
  rw [owed_first]
  iintro ⟨%W, -, HO⟩; iexists W; iexact HO

/-- What the body starts from, and what it leaves. -/
def bodyPre (c : Dev nD) : sProp 𝕄 :=
  iprop(Φ₀ m c ∗ (dat m c).owesAt () t0_0.castSucc
    ∗ (∃ d, ∃ f : Buf (Elt F) ((c : Thread nD τ).loc cc0_stg0_0), ⌜f = (dat m c).before (0 : Fin 3) t0_0 d⌝ ∗ (((c : Thread nD τ).loc cc0_stg0_0) ↦{fullShare} f))
    ∗ (∃ d, ∃ f : Buf (Elt F) ((c : Thread nD τ).loc cc0_stg1_0), ⌜f = (dat m c).before (1 : Fin 3) t0_0 d⌝ ∗ (((c : Thread nD τ).loc cc0_stg1_0) ↦{fullShare} f))
    ∗ (∃ d, ∃ f : Buf (Elt F) ((c : Thread nD τ).loc cc0_stg2_0), ⌜f = (dat m c).before (2 : Fin 3) t0_0 d⌝ ∗ (((c : Thread nD τ).loc cc0_stg2_0) ↦{fullShare} f)))
def bodyPost (c : Dev nD) : sProp 𝕄 :=
  iprop(Φ₁ (F := F) c ∗ (dat m c).owesAt () t0_0.succ
    ∗ (∃ f : Buf (Elt F) ((c : Thread nD τ).loc cc0_stg0_0), ⌜f = xs m c⌝ ∗ (((c : Thread nD τ).loc cc0_stg0_0) ↦{fullShare} f))
    ∗ (∃ f : Buf (Elt F) ((c : Thread nD τ).loc cc0_stg1_0), ⌜f = ys m c⌝ ∗ (((c : Thread nD τ).loc cc0_stg1_0) ↦{fullShare} f))
    ∗ (∃ f : Buf (Elt F) ((c : Thread nD τ).loc cc0_stg2_0), ⌜f = res m⌝ ∗ (((c : Thread nD τ).loc cc0_stg2_0) ↦{fullShare} f)))

theorem sound_body (c : Dev nD) (Q : PUnit → sProp 𝕄) :
    iprop(bodyPre m c ∗ (bodyPost m c -∗ Q ⟨⟩))
      ⊢ wp frame (wpE (defs₀ (F := F)) 𝒱₀ c none) Set.univ
          (cc0_body (F := F) xM (Memref.isWhole_whole _) yM (Memref.isWhole_whole _) oM (Memref.isWhole_whole _) partM (Memref.isWhole_whole _)
            commM (Memref.isWhole_whole _) cc0_scratch2 cc0_scratch3) Q := by
  unfold bodyPre Φ₀ Xk scr
  iintro ⟨⟨⟨⟨⟨%K, #HI⟩, #Hlev, Ha, Hc, Ht, Hzc⟩, ⟨Hp, Hcm⟩, Hreg⟩, HO, ⟨%d0, %g0, %h0, Hx⟩, ⟨%d1, %g1, %h1, Hy⟩, ⟨%d2, %g2, -, Ho⟩⟩, Hk⟩
  have e0 : g0 = xs m c := h0.trans (before_x m c d0)
  have e1 : g1 = ys m c := h1.trans (before_y m c d1)
  subst e0 e1
  ihave HO' := (owes_elim m c) $$ HO
  icases HO' with ⟨%W, HO⟩
  iapply (bodyRun (part m) K c W (xs m c) (ys m c) rfl Q)
  isplitr; · iexact HI
  isplitr; · iexact Hlev
  isplitl [HO]; · iexact HO
  isplitl [Hc]; · iexact Hc
  isplitl [Ha]; · iexact Ha
  isplitl [Ht]; · iexact Ht
  isplitl [Hx]; · iexact Hx
  isplitl [Hy]; · iexact Hy
  isplitl [Ho]; · iexists g2; iexact Ho
  isplitl [Hp]; · iexact Hp
  isplitl [Hcm]; · iexact Hcm
  iintro ⟨⟨%W', HO⟩, Hb, Hz, Hx, Hy, Ho, Hp, Hcm⟩
  iapply Hk
  unfold bodyPost Φ₁ scr
  isplitl [Hb Hz Hzc Hp Hcm Hreg]
  · isplitl [Hb]; · iexact Hb
    isplitl [Hz Hzc]
    · iapply (Entails.of_eq (ownSems_eq (F := F) c).symm)
      isplitl [Hzc] <;> iassumption
    isplitl [Hp Hcm]; · isplitl [Hp] <;> iassumption
    iexact Hreg
  isplitl [HO]; · iapply (owes_intro m c W'); iexact HO
  isplitl [Hx]; · iexists _; isplitr; · ipureintro; rfl
                  iexact Hx
  isplitl [Hy]; · iexists _; isplitr; · ipureintro; rfl
                  iexact Hy
  iexists _; isplitr; · ipureintro; rfl
  iexact Ho

theorem body_obligation (c : Dev nD) : BodyObligation (dat m c) defs₀ 𝒱₀ () Set.univ := fun t => by
  obtain rfl := fin_N0 t
  rw [bigSep_W0, bigSep_W0]
  simp only [owes_whole_eq]
  rw [Φ_first, Φ_last]
  show bodyPre m c ⊢ wp frame (wpE (defs₀ (F := F)) 𝒱₀ c none) Set.univ
          (cc0_body (F := F) xM (Memref.isWhole_whole _) yM (Memref.isWhole_whole _) oM (Memref.isWhole_whole _) partM (Memref.isWhole_whole _)
            commM (Memref.isWhole_whole _) cc0_scratch2 cc0_scratch3) fun _ => bodyPost m c
  iintro H
  iapply (sound_body m c)
  isplitl [H]; · iexact H
  iintro H; iexact H

/-! ## The region's record -/

theorem cut (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · unfold O₀ at h
    rw [Pi.add_apply, Finsupp.add_apply] at h
    rcases Nat.add_pos_iff_pos_or_pos.mp h with h | h
    · obtain ⟨p, -, rfl⟩ := Or_pos h
      exact ⟨by rw [L_tc]; exact Finset.mem_singleton_self _, by rw [lv_recv]; decide⟩
    · obtain ⟨p, -, rfl⟩ := Ob_pos h
      exact ⟨by rw [L_tc]; exact Finset.mem_singleton_self _, by rw [lv_bar]; decide⟩
  · exact absurd h (Nat.lt_irrefl 0)

/-- The staging semaphores are no receive semaphores. -/
theorem stage_lv (c : Dev nD) (w : Fin 3) (s : Fin (cfg0.win w).nbuf) : lv ((c : Thread nD τ), .dma ((cfg0.win w).sem s)) () ≤ 0 := by
  unfold lv
  rw [if_neg (fun h => by cases h), if_neg]
  rintro ⟨j, h⟩
  exact absurd (SemLoc.dma.inj h) ((by decide +kernel : ∀ (j : Dev nD) (w : Fin 3) (s : Fin (spec0 w).nbuf), (spec0 w).sem s ≠ recvS j) j w s)

/-- The unscoped buffers no window stages. -/
abbrev others : Finset (DevRef τ sig) := Pipeline.ucRefs τ sig \ Pipeline.arrRefs (τ := τ) spec0

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = Φ₀ m c from Φ_first m c, show (Pipeline.scopedRest (Pipeline.pin (pcfgs (F := F)) adm 0).spec c : sProp 𝕄) = _ from scopedRest0_eq c]
  unfold Φ₀ scr
  iintro ⟨Hs, Hr, -, HX⟩
  isplitl [HX]; · iexact HX
  isplitl [Hs]; · iexact Hs
  iexact Hr

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk (F := F) c) := by
  rw [show (pdats m 0 c).Φ (Fin.last (Pipeline.pin (pcfgs (F := F)) adm 0).N) = Φ₁ (F := F) c from Φ_last m c,
    show (Pipeline.scopedRest (Pipeline.pin (pcfgs (F := F)) adm 0).spec c : sProp 𝕄) = _ from scopedRest0_eq c,
    show (StableHlo.held (c.tc : Thread nD τ) ∅ (V2 m (outs m) c) : sProp 𝕄) = BI.emp from BI.bigSep_empty]
  unfold Φ₁ scr Yk
  iintro ⟨Hb, Hz, Hs, Hr⟩
  isplitl [Hs]; · iexact Hs
  isplitl [Hr]; · iexact Hr
  isplitr; · iempintro
  isplitl [Hz]; · iexact Hz
  iexact Hb

theorem arr_in (c : Dev nD) (w : Fin 3) : (dat m c).arrAt w 0 = V1 m c (Proc.devRef .tc (Pipeline.arrRef spec0 w)) := rfl

theorem arr_out (c : Dev nD) : ∀ w : Fin 3, (dat m c).arrAt w cfg0.N = V2 m (outs m) c (Proc.devRef .tc (Pipeline.arrRef spec0 w))
  | 0 => ((dat m c).arrAt_in (0 : Fin 3) rfl _).trans (V2_of m (outs m) c main_v15 (by decide)).symm
  | 1 => ((dat m c).arrAt_in (1 : Fin 3) rfl _).trans (V2_of m (outs m) c main_v19 (by decide)).symm
  | 2 => (final_out m c).trans (V2_out m c).symm

theorem others_eq (c : Dev nD) : ∀ b ∈ others \ ∅, V2 m (outs m) c b = V1 m c b := fun b hb => by
  rw [Finset.sdiff_empty] at hb
  refine Function.update_of_ne (fun h => ?_) _ _
  subst h
  exact absurd hb (by decide +kernel)

local notation "ℝ𝕊" => Pipeline.RegionSeg (pcfgs (F := F)) adm (pdats m) () defs₀ 𝒱₀ L lv

set_option backward.isDefEq.respectTransparency.types false in
def reg : ℝ𝕊 0 :=
  Pipeline.RegionSeg.ofTalk (pcfgs (F := F)) adm (pdats m) () defs₀ 𝒱₀ L lv 0 osem ownSemFacts
    ∅ others (Finset.empty_subset _) (launch0.toP) rfl (fun c => (body_obligation m c).loose)
    (fun _ => 0) O₀ (fun c => (show (dat m c).owed 0 = O₀ c from owed_first m c).trans (zero_add _).symm) (owed_last m) (fun _ => rfl) (fun _ _ => ite_self _)
    (V1 m) (V2 m (outs m)) (others_eq m)
    (Tk m) (Yk (F := F)) (Xk m) (Yk (F := F)) (hopen m) (hin m) (hout m)
    (fun c => by iintro H; imodintro; iexact H)
    (fun _ => 0)
    ⟨fun c w s => by rw [L_tc]; exact Finset.mem_singleton_self _, fun c w s => stage_lv c w s, fun c t g i h => cut m c t g i h⟩
    (fun _ => iprop(emp))
    (arr_in m) (arr_out m)

end Cert.KernelIdeal.Run

end
-- ==== Proof.KI.Launch.lean ====
module

public import proofs.«01_k».proof.Proof.KI.Region

@[expose] public section

noncomputable section

namespace Cert.KernelIdeal.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem Or_bar (d c : Dev nD) : Or 0 d (barCell c) () = 0 := by
  by_contra h
  obtain ⟨p, -, e⟩ := Or_pos (Nat.pos_of_ne_zero h)
  cases congrArg Prod.snd e
theorem Ob_recv (d c p : Dev nD) : Ob 0 d (recvCell c p) () = 0 := by
  by_contra h
  obtain ⟨q, -, e⟩ := Ob_pos (Nat.pos_of_ne_zero h)
  cases congrArg Prod.snd e

theorem owed_bar (d c : Dev nD) : O₀ d (barCell c) () = if c ∈ rem 0 d then 1 else 0 := by
  unfold O₀
  rw [Pi.add_apply, Finsupp.add_apply, Or_bar, Nat.zero_add]
  unfold Ob
  rw [Finset.sum_apply, Finsupp.finset_sum_apply, ← Finset.sum_ite_eq' (rem 0 d) c fun _ => 1]
  refine Finset.sum_congr rfl fun p _ => ?_
  rw [tallyAt_apply]
  by_cases h : p = c
  · subst h; rw [if_pos ⟨rfl, rfl⟩, if_pos rfl]
  · rw [if_neg (fun ⟨h1, _⟩ => h (congrArg (fun g : GSem nD τ sig => g.1.1) h1).symm), if_neg h]

theorem owed_recv (d c p : Dev nD) (hp : p ≠ c) : O₀ d (recvCell c p) () = if d = p then N else 0 := by
  unfold O₀
  rw [Pi.add_apply, Finsupp.add_apply, Ob_recv, Nat.add_zero]
  unfold Or
  rw [Finset.sum_apply, Finsupp.finset_sum_apply]
  by_cases h : d = p
  · subst h
    rw [if_pos rfl, Finset.sum_eq_single c, tallyAt_apply, if_pos ⟨rfl, rfl⟩]
    · intro q _ hq
      rw [tallyAt_apply, if_neg (fun ⟨h1, _⟩ => hq (congrArg (fun g : GSem nD τ sig => g.1.1) h1).symm)]
    · intro hc
      exact absurd (Finset.mem_filter.mpr ⟨Finset.mem_univ _, Nat.zero_le _, hp.symm⟩) hc
  · rw [if_neg h]
    refine Finset.sum_eq_zero fun q _ => ?_
    rw [tallyAt_apply, if_neg (fun ⟨h1, _⟩ => h (recvS_inj _ _ (SemLoc.dma.inj (congrArg Prod.snd h1))).symm)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p hp, Finset.sum_ite_eq' Finset.univ p fun _ => N,
    if_pos (Finset.mem_univ _)]

/-- What launch credits device `c` with: its seven barrier units and every peer's copy. -/
theorem creds (c : Dev nD) :
    (Pipeline.launchCred O₀ c : sProp 𝕄) ⊢ iprop(cred (tallyAt (barCell c) () 7) ∗ bigSep (rem 0 c) fun p => cred (tallyAt (recvCell c p) () N)) := by
  unfold Pipeline.launchCred
  rw [bigSep_univ_at _ (SemLoc.reg barS), launch_bar]
  refine sep_mono_right ?_
  have hsub : (rem 0 c).image (fun p => (SemLoc.dma (recvS p) : SemLoc sig)) ⊆ Finset.univ.erase (SemLoc.reg barS) := fun s hs => by
    obtain ⟨p, -, rfl⟩ := Finset.mem_image.mp hs
    exact Finset.mem_erase.mpr ⟨fun h => (by cases h), Finset.mem_univ _⟩
  refine (bigSep_subset hsub).trans ?_
  rw [bigSep_image_of_injOn (f := fun p => (SemLoc.dma (recvS p) : SemLoc sig)) (fun a _ b _ h => recvS_inj a b (SemLoc.dma.inj h))]
  exact bigSep_mono fun p hp => Entails.of_eq (congrArg cred (launch_recv c p (Finset.mem_filter.mp hp).2.2))

/-! ## Funding -/

theorem recv_pair_inj : Function.Injective fun x : Dev nD × Dev nD => recvCell x.1 x.2 := fun x y h =>
  Prod.ext (congrArg (fun g : GSem nD τ sig => g.1.1) h) (recvS_inj _ _ (SemLoc.dma.inj (congrArg Prod.snd h)))
theorem send_pair_inj : Function.Injective fun x : Dev nD × Dev nD => sendCell x.1 x.2 := fun x y h =>
  Prod.ext (congrArg (fun g : GSem nD τ sig => g.1.1) h) (sendS_inj _ _ (SemLoc.dma.inj (congrArg Prod.snd h)))
theorem bar_inj : Function.Injective barCell := fun x y h => congrArg (fun g : GSem nD τ sig => g.1.1) h

theorem disjoint_cells : Disjoint barCells dmaCells := by
  rw [Finset.disjoint_left]
  intro g h₁ h₂
  obtain ⟨c, -, rfl⟩ := Finset.mem_image.mp h₁
  rcases Finset.mem_union.mp h₂ with h | h
  · obtain ⟨x, -, e⟩ := Finset.mem_image.mp h
    cases congrArg Prod.snd e
  · obtain ⟨x, -, e⟩ := Finset.mem_image.mp h
    cases congrArg Prod.snd e

theorem disjoint_dma : Disjoint (Finset.univ.image fun x : Dev nD × Dev nD => recvCell x.1 x.2) (Finset.univ.image fun x : Dev nD × Dev nD => sendCell x.1 x.2) := by
  rw [Finset.disjoint_left]
  intro g h₁ h₂
  obtain ⟨x, -, rfl⟩ := Finset.mem_image.mp h₁
  obtain ⟨y, -, e⟩ := Finset.mem_image.mp h₂
  exact send_ne_recv _ _ (SemLoc.dma.inj (congrArg Prod.snd e))

/-- The barrier cells are one per device. -/
theorem bar_split (Φ : GSem nD τ sig → sProp 𝕄) : bigSep barCells Φ = bigSep Finset.univ fun c : Dev nD => Φ (barCell c) :=
  bigSep_image_of_injOn (fun a _ b _ h => bar_inj h) Φ

/-- The transfer cells are two per pair. -/
theorem dma_split (Φ : GSem nD τ sig → sProp 𝕄) :
    bigSep dmaCells Φ = bigSep Finset.univ fun c : Dev nD => bigSep Finset.univ fun p : Dev nD => iprop(Φ (recvCell c p) ∗ Φ (sendCell c p)) := by
  unfold dmaCells
  refine (BI.bigSep_union disjoint_dma).trans ?_
  rw [bigSep_image_of_injOn (fun a _ b _ h => recv_pair_inj h), bigSep_image_of_injOn (fun a _ b _ h => send_pair_inj h)]
  refine (bigSep_sep' Finset.univ (fun x : Dev nD × Dev nD => Φ (recvCell x.1 x.2)) (fun x : Dev nD × Dev nD => Φ (sendCell x.1 x.2))).symm.trans ?_
  rw [BI.bigSep_univ_prod]

/-- The duty tokens of the pair `x`, as its first device pays them. -/
abbrev tokOf (x : (Dev nD × Dev nD) × Fin 3) : GSem nD τ sig × ℕ × Dev nD :=
  if x.2 = 0 then (barCell x.1.2, 0, x.1.1) else if x.2 = 1 then (sendCell x.1.1 x.1.2, 0, x.1.2) else (recvCell x.1.2 x.1.1, 0, x.1.1)

theorem tokOf_inj : Function.Injective tokOf := by decide +kernel

def toks : Finset (GSem nD τ sig × ℕ × Dev nD) := Finset.univ.map ⟨tokOf, tokOf_inj⟩

theorem bigSep_three (Φ : Fin 3 → sProp 𝕄) : bigSep Finset.univ Φ = iprop(Φ 0 ∗ Φ 1 ∗ Φ 2) := bigSep_W0 Φ

theorem toks_split : bigSep toks (fun x => (dutyTok ER x.1 x.2.1 x.2.2 : sProp 𝕄))
    = bigSep Finset.univ fun c : Dev nD => bigSep Finset.univ fun p : Dev nD => payToks (F := F) c p := by
  unfold toks
  rw [BI.bigSep_map, BI.bigSep_univ_prod, BI.bigSep_univ_prod]
  exact bigSep_congr fun c _ => bigSep_congr fun p _ => by rw [bigSep_three]; rfl

/-- The launch element. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- A resource held on device 0 and nothing elsewhere. -/
def atZero (X : sProp 𝕄) (c : Dev nD) : sProp 𝕄 := if c = 0 then X else iprop(emp)
theorem atZero_all (X : sProp 𝕄) : bigSep Finset.univ (atZero X) = X := by
  rw [bigSep_univ_at _ (0 : Dev nD), bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells dmaCells toks)))

theorem hu₀ : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
        ∗ bigSep Finset.univ (G (F := F))) := by
  unfold u₀ G
  iintro Hu
  ihave H := (ownU_pair _ _) $$ Hu
  icases H with ⟨HP, HX⟩
  imodintro
  isplitl [HP]; · iexact HP
  rw [atZero_all]; iexact HX

/-! ## What each device starts from -/

/-- What rides beside the buffers up to the region, and after it. -/
def E (j : Fin 2) (c : Dev nD) : sProp 𝕄 :=
  if j = 0 then iprop(Tk m c ∗ (∃ r, prngReg c r) ∗ ∃ W, owes (c : Thread nD τ) (O₀ c) W)
  else iprop(semVal (barCell c) 0 ∗ ∃ W, owes (c : Thread nD τ) (0 : CellTallies nD τ sig Unit) W)

/-- What of a device's launch holdings is not the protocol's ghost state. -/
def bundle (c : Dev nD) : sProp 𝕄 :=
  iprop((cred (tallyAt (barCell c) () 7) ∗ bigSep (rem 0 c) fun p => cred (tallyAt (recvCell c p) () N))
    ∗ owes (c : Thread nD τ) (O₀ c) ∅ ∗ ∃ r, prngReg c r)

/-- The protocol's ghost state as launch deals it. -/
def linear (c : Dev nD) : sProp 𝕄 :=
  iprop(atPos ER (barCell c) 0 ∅ 0 ∗ (bigSep Finset.univ fun p : Dev nD => iprop(openTok ER (recvCell c p) ∗ openTok ER (sendCell c p)))
    ∗ bigSep Finset.univ fun p : Dev nD => payToks (F := F) c p)

theorem E_intro (κ : GSem nD τ sig → ℕ) (c : Dev nD) :
    iprop((invs (part m) κ ∗ bars (F := F)) ∗ (linear (F := F) c ∗ bundle (F := F) c)) ⊢ E m 0 c := by
  rw [show E m 0 c = iprop(Tk m c ∗ (∃ r, prngReg c r) ∗ ∃ W, owes (c : Thread nD τ) (O₀ c) W) from if_pos rfl]
  unfold linear bundle Tk
  iintro ⟨⟨#HI, #HB⟩, ⟨Ha, Ho, Ht⟩, ⟨Hcb, Hcr⟩, HO, Hp⟩
  ihave Ho' := (show _ ⊢ bigSep (rem 0 c) (fun p : Dev nD => (iprop(openTok ER (recvCell c p) ∗ openTok ER (sendCell c p)) : sProp 𝕄)) from
    bigSep_subset (Finset.subset_univ (rem 0 c))) $$ Ho
  ihave Ht' := (show _ ⊢ bigSep (rem 0 c) (fun p : Dev nD => payToks (F := F) c p) from bigSep_subset (Finset.subset_univ (rem 0 c))) $$ Ht
  isplitr [HO Hp]
  · isplitr; · iexists κ; iexact HI
    isplitr; · iexact HB
    isplitl [Ha]; · iexact Ha
    isplitl [Hcb]; · iexact Hcb
    unfold pairIn
    iapply bigSep_pair
    isplitl [Ho']; · iexact Ho'
    iapply bigSep_pair
    isplitl [Ht']; · iexact Ht'
    iexact Hcr
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem core (c : Dev nD) : iprop(unscopedSems0 c ∗ owes (c : Thread nD τ) (O₀ c) ∅ ∗ Pipeline.launchCred O₀ c ∗ prngReg c (ρ c) ∗ G (F := F) c)
    ⊢ (iprop(bundle (F := F) c ∗ (semVal (barCell c) 0 ∗ G (F := F) c)) : sProp 𝕄) := by
  rw [unscopedSems0_eq]
  unfold bundle
  iintro ⟨Hus, HO, Hcr, Hp, HG⟩
  ihave Hc := (creds (F := F) c) $$ Hcr
  isplitl [HO Hc Hp]
  · isplitl [Hc]; · iexact Hc
    isplitl [HO]; · iexact HO
    iexists (ρ c); iexact Hp
  isplitl [Hus] <;> iassumption

theorem hE0 :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E m 0) : sProp 𝕄) := by
  iintro ⟨H, -⟩
  ihave H' := (show _ ⊢ (bigSep Finset.univ fun c : Dev nD => iprop(bundle (F := F) c ∗ (semVal (barCell c) 0 ∗ G (F := F) c)) : sProp 𝕄) from
    bigSep_mono fun c _ => core ρ c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells dmaCells toks)) from Entails.of_eq (atZero_all _)) $$ HG
  imod (Rounds.fund_launch ER (rd (part m)) disjoint_cells (fun g _ h => h) toks) $$ [Hv Hu] with ⟨%κ, -, #Hinv, #Hr, Hat, Hopen, Htok⟩
  · isplitl [Hv]
    · iapply (Entails.of_eq (bar_split (F := F) fun g => semVal g 0).symm); iexact Hv
    · iexact Hu
  imodintro
  iapply (bigSep_with_persistent (R := iprop(invs (part m) κ ∗ bars (F := F))) (Φ := fun c => iprop(linear (F := F) c ∗ bundle (F := F) c)) fun c _ => E_intro m κ c)
  isplitr
  · isplitr
    · unfold invs cells; iexact Hinv
    · unfold bars
      iapply (Entails.of_eq (bar_split (F := F) fun g => reached ER g 0)); iexact Hr
  iapply bigSep_pair
  isplitr [HB]
  · unfold linear
    iapply bigSep_pair
    isplitl [Hat]; · iapply (Entails.of_eq (bar_split (F := F) fun g => atPos ER g 0 ∅ 0)); iexact Hat
    iapply bigSep_pair
    isplitl [Hopen]; · iapply (Entails.of_eq (dma_split (F := F) fun g => openTok ER g)); iexact Hopen
    iapply (Entails.of_eq (toks_split (F := F))); iexact Htok
  · iexact HB

/-! ## The run -/

theorem held_split (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) others W) :=
  StableHlo.held_sub_split (c.tc : Thread nD τ) (by decide +kernel) W

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [held_split, zero_add, show E m 0 c = iprop(Tk m c ∗ (∃ r, prngReg c r) ∗ ∃ W, owes (c : Thread nD τ) (O₀ c) W) from if_pos rfl]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop((StableHlo.held (c : Thread nD τ) (Pipeline.ucRefs τ sig) (V2 m (outs m) c) ∗ semVal (barCell c) 0)
    ∗ ∃ W, owes (c : Thread nD τ) (0 : CellTallies nD τ sig Unit) W) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk (F := F) c ∗ ∃ Wd, owes (c : Thread nD τ) (0 : CellTallies nD τ sig Unit) Wd) ⊢ _
  rw [held_split]
  unfold Yk
  iintro ⟨Ha, -, ⟨Hr, -⟩, Hb, HO⟩
  isplitr [HO]
  · isplitl [Ha Hr]; · isplitl [Ha] <;> iassumption
    iexact Hb
  iexact HO

theorem unscoped_eq : ∀ sm : SemLoc sig, sm.isScoped .tc = false → sm = .reg barS := by decide

theorem mem_uc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

set_option backward.isDefEq.respectTransparency.types false in
/-- From any memory with zero counters every weakly fair execution of `main` terminates; every final state has every device's
    result buffer at `res`, the sum of the devices' partial blocks, the arguments as launched and every counter at zero. -/
theorem run_main : θ_run defs (onTc (τ := τ) (main (F := F))) ⟨m, fun _ => 0, ρ⟩ (fun r =>
    (∀ c : Dev nD, r.2.mem ((c.tc : Thread nD τ).loc main_v20) = res m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) (u₀ (F := F))
    (hu₀ (F := F))
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, reg_pre m c, reg_post m c⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G (F := F) c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ G (F := F) c))
              : sProp 𝕄) := by
        rw [← bigSep_sep']
        exact bigSep_mono fun c _ => by rw [← Pipeline.unscopedBufs_held (Ix := Unit) (Name := ℕ) (U := UU) (Lvl := ℕ) c (V0 m c)]; exact BI.Entails.refl _
      iintro ⟨H, Hla⟩
      ihave H' := hsplit $$ H
      icases H' with ⟨Hh, Hr⟩
      imod (hE0 m ρ) $$ [Hr Hla] with HE
      · isplitl [Hr]; · iexact Hr
        iexact Hla
      imodintro
      rw [bigSep_sep']
      isplitl [Hh]; · iexact Hh
      iexact HE)
    (QY := fun c s => (s.mem ((c.tc : Thread nD τ).loc main_v20) = res m
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)) ∧ s.sem (barCell c) = 0)
    (hfin := fun c s' => by
      unfold StableHlo.held
      iintro ⟨⟨Hh, Hb0⟩, HSI⟩
      icombine HSI Hb0 gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨⟨(h _ (mem_uc main_v20 (by decide))).trans (V2_out m c),
          (h _ (mem_uc main_arg0 (by decide))).trans (V2_main_arg0 m (outs m) c),
          (h _ (mem_uc main_arg1 (by decide))).trans (V2_main_arg1 m (outs m) c),
          (h _ (mem_uc main_arg2 (by decide))).trans (V2_main_arg2 m (outs m) c)⟩, by simpa using hb⟩
      · iexact HSI)
    (hQ := fun s h hs => ⟨fun c => (h c).1, sem_eq_zero hs fun c sm hsm => by
        obtain rfl := unscoped_eq sm hsm
        exact (h c).2⟩)

end Cert.KernelIdeal.Run

end
-- ==== Proof.Frames.lean ====
module

public import proofs.«01_k».proof.Defs
public import proofs.«01_k».proof.Proof.K.Launch
public import proofs.«01_k».proof.Proof.KI.Launch
public import proofs.«01_k».proof.Proof.Gen.ReferenceIdeal.Run

@[expose] public section

noncomputable section

/-! The claims that every run ends, with the arguments as launched and every counter at zero. -/

namespace Cert.Proof

open Idealize.ShloMosaic Idealize.ShloMosaic.TcCoe Idealize.SL.Sem

/-- The kernel's run at the machine's numbers ends with its arguments and counters as launched. -/
theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  (θ_run _ _ _).mono (fun _ h => ⟨fun c => (h.1 c).2, h.2⟩) (Cert.Kernel.Run.run_main m g)

/-- The kernel's run at exact numbers ends with its arguments and counters as launched. -/
theorem frame_kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2, h.2⟩) (Cert.KernelIdeal.Run.run_main m g)

/-- The reference names no semaphore. -/
theorem ref_no_sem : ∀ sm : SemLoc Cert.ReferenceIdeal.sig, False := by decide

/-- The reference's run ends with its arguments and counters as launched. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => ⟨fun c => (h c).2, funext fun s => (ref_no_sem s.2).elim⟩) (Cert.ReferenceIdeal.Value.run m g)

end Cert.Proof

end
-- ==== Proof.Val.Row.lean ====
module

public import Idealize.ShloMosaic.PureOps.Ideal
public import Idealize.ShloMosaic.Lib.IdealHost

@[expose] public section

noncomputable section

/-! One row of the layer norm over the extended reals: the kernel's way of normalising it and the reference's agree on finite rows. -/

namespace Cert.Val

open Idealize.ShloMosaic

/-- The row length as the programs' constant. -/
abbrev wd : EReal := Ideal.ofBits .f32 0x44800000#32
/-- The small number added to the variance. -/
abbrev eps : EReal := Ideal.ofBits .f32 0x3727C5AC#32

theorem wd_eq : wd = ((1024 : ℝ) : EReal) := by
  simp [wd, Ideal.ofBits, Ideal.ieee, -EReal.coe_mul]; norm_num

theorem eps_pos : ∃ e : ℝ, 0 < e ∧ eps = (e : EReal) :=
  ⟨10995116 / 2 ^ 40, by norm_num, by simp [eps, Ideal.ofBits, Ideal.ieee, -EReal.coe_mul]; norm_num⟩

/-- The kernel's normalised row: centred by the mean, scaled by the root of the mean square less the squared mean. -/
def hatK (x : Fin 1024 → EReal) (b : Fin 1024) : EReal :=
  (x b - Ideal.div (∑ k, x k) wd)
    * Ideal.rsqrt (Ideal.div (∑ k, x k * x k) wd - Ideal.div (∑ k, x k) wd * Ideal.div (∑ k, x k) wd + eps)

/-- The reference's normalised row: centred by the mean, over the root of the mean squared distance from it. -/
def hatR (x : Fin 1024 → EReal) (b : Fin 1024) : EReal :=
  (x b - Ideal.div (∑ k, x k) wd)
    * Ideal.div 1 (Ideal.sqrt (Ideal.div (∑ k, (x k - Ideal.div (∑ k, x k) wd) * (x k - Ideal.div (∑ k, x k) wd)) wd + eps))

/-- A finite sum of reals is the same sum among the extended reals. -/
theorem sum_coe {n : ℕ} (f : Fin n → ℝ) : (∑ k, (f k : EReal)) = ((∑ k, f k : ℝ) : EReal) := by
  induction (Finset.univ : Finset (Fin n)) using Finset.induction_on with
  | empty => rw [Finset.sum_empty, Finset.sum_empty]; rfl
  | insert k s hk ih => rw [Finset.sum_insert hk, Finset.sum_insert hk, ih, EReal.coe_add]

/-- Division by the row length, of a real. -/
theorem div_wd (r : ℝ) : Ideal.div (r : EReal) wd = ((r / 1024 : ℝ) : EReal) := by
  rw [wd_eq, Ideal.div_coe (by norm_num : (1024 : ℝ) ≠ 0), ← EReal.coe_mul]
  congr 1; ring

/-- The mean square less the squared mean is the mean squared distance from the mean. -/
theorem var_eq (f : Fin 1024 → ℝ) :
    (∑ k, f k * f k) / 1024 - (∑ k, f k) / 1024 * ((∑ k, f k) / 1024)
      = (∑ k, (f k - (∑ k, f k) / 1024) * (f k - (∑ k, f k) / 1024)) / 1024 := by
  generalize hS : (∑ k, f k) = S
  have h : ∀ k, (f k - S / 1024) * (f k - S / 1024) = f k * f k - S / 512 * f k + S / 1024 * (S / 1024) := fun k => by ring
  rw [Finset.sum_congr rfl fun k _ => h k, Finset.sum_add_distrib, Finset.sum_sub_distrib, ← Finset.mul_sum, hS, Finset.sum_const, Finset.card_univ,
    Fintype.card_fin, nsmul_eq_mul]
  push_cast
  ring

/-- On a finite row the two ways of normalising it agree. -/
theorem hat_eq (x : Fin 1024 → EReal) (hx : ∀ k, ∃ r : ℝ, x k = (r : EReal)) (b : Fin 1024) : hatK x b = hatR x b := by
  choose f hf using hx
  obtain rfl : x = fun k => (f k : EReal) := funext hf
  obtain ⟨e, he, hE⟩ := eps_pos
  unfold hatK hatR
  have h1 : Ideal.div (∑ k, (f k : EReal)) wd = (((∑ k, f k) / 1024 : ℝ) : EReal) := by rw [sum_coe, div_wd]
  have h2 : Ideal.div (∑ k, (f k : EReal) * (f k : EReal)) wd = (((∑ k, f k * f k) / 1024 : ℝ) : EReal) := by
    refine Eq.trans ?_ (div_wd _)
    rw [← sum_coe]; simp only [EReal.coe_mul]
  have h3 : Ideal.div (∑ k, ((f k : EReal) - (((∑ k, f k) / 1024 : ℝ) : EReal)) * ((f k : EReal) - (((∑ k, f k) / 1024 : ℝ) : EReal))) wd
      = (((∑ k, (f k - (∑ k, f k) / 1024) * (f k - (∑ k, f k) / 1024)) / 1024 : ℝ) : EReal) := by
    refine Eq.trans ?_ (div_wd _)
    rw [← sum_coe]; simp only [EReal.coe_mul, EReal.coe_sub]
  have h4 : (((∑ k, f k * f k) / 1024 : ℝ) : EReal) - (((∑ k, f k) / 1024 : ℝ) : EReal) * (((∑ k, f k) / 1024 : ℝ) : EReal)
      = (((∑ k, (f k - (∑ k, f k) / 1024) * (f k - (∑ k, f k) / 1024)) / 1024 : ℝ) : EReal) := by
    rw [← EReal.coe_mul, ← EReal.coe_sub, var_eq]
  simp only [h1]
  rw [h2, h3, hE, h4, ← EReal.coe_add]
  have hv : 0 ≤ (∑ k, (f k - (∑ k, f k) / 1024) * (f k - (∑ k, f k) / 1024)) / 1024 :=
    div_nonneg (Finset.sum_nonneg fun k _ => mul_self_nonneg _) (by norm_num)
  generalize (∑ k, (f k - (∑ k, f k) / 1024) * (f k - (∑ k, f k) / 1024)) / 1024 = v at hv ⊢
  have hp : 0 < v + e := by linarith
  have hr : Ideal.rsqrt ((v + e : ℝ) : EReal) = (((Real.sqrt (v + e))⁻¹ : ℝ) : EReal) := by
    show (if v + e < 0 then ⊥ else if v + e = 0 then ⊤ else (((Real.sqrt (v + e))⁻¹ : ℝ) : EReal)) = _
    rw [if_neg (not_lt.mpr hp.le), if_neg hp.ne']
  have hs : Ideal.sqrt ((v + e : ℝ) : EReal) = ((Real.sqrt (v + e) : ℝ) : EReal) := by
    show (if v + e < 0 then ⊥ else ((Real.sqrt (v + e) : ℝ) : EReal)) = _
    rw [if_neg (not_lt.mpr hp.le)]
  rw [hr, hs, Ideal.div_coe (Real.sqrt_pos.mpr hp).ne', one_mul, one_div]

/-- Finiteness is needed: on a row of infinities the kernel's normalised row is infinite and the reference's is zero. -/
theorem hat_top (b : Fin 1024) : hatK (fun _ => ⊤) b = ⊤ ∧ hatR (fun _ => ⊤) b = 0 := by
  obtain ⟨e, he, hE⟩ := eps_pos
  have hs : (∑ _k : Fin 1024, (⊤ : EReal)) = ⊤ := by
    rw [← Finset.add_sum_erase _ _ (Finset.mem_univ (0 : Fin 1024)), EReal.top_add_of_ne_bot]
    exact fun h => not_lt_of_ge (Finset.sum_nonneg fun _ _ => le_top) (h ▸ EReal.bot_lt_zero)
  have hd : Ideal.div ⊤ wd = ⊤ := by
    rw [wd_eq, Ideal.div_coe (by norm_num : (1024 : ℝ) ≠ 0)]
    exact EReal.top_mul_coe_of_pos (by norm_num)
  have h1 : (⊤ : EReal) - ⊤ = ⊥ := rfl
  unfold hatK hatR
  simp only [EReal.top_mul_top, hs, hd, h1, EReal.bot_mul_bot, hE]
  constructor
  · rw [EReal.bot_add]; exact EReal.bot_mul_bot
  · rw [EReal.top_add_coe]
    have h2 : Ideal.div 1 (Ideal.sqrt ⊤) = 0 := by
      show Ideal.div 1 ⊤ = 0
      simp [Ideal.div]
    rw [h2, mul_zero]

/-- A number with a magnitude below infinity is a real. -/
theorem real_of_abs (a : EReal) (h : max a (-a) < ⊤) : ∃ r : ℝ, a = (r : EReal) := by
  induction a using EReal.rec with
  | bot => simp at h
  | coe r => exact ⟨r, rfl⟩
  | top => simp at h

/-! ## The rows of all devices -/

/-- The row of the whole array that is row `r` of device `c`'s slice. -/
def rowAt (c : Fin 8) (r : Fin 256) : Fin 2048 := ⟨1024 * (c.val / 2 % 2) + 256 * (2 * (c.val / 4) + c.val % 2) + r.val, by omega⟩

/-- Which block of 256 rows device `c`'s slice is. -/
abbrev blkOf (c : Fin 8) : ℕ := 4 * (c.val / 2 % 2) + (2 * (c.val / 4) + c.val % 2)
theorem blkOf_inj : ∀ c d : Fin 8, blkOf c = blkOf d → c = d := by decide

theorem rowAt_val (c : Fin 8) (r : Fin 256) : (rowAt c r).val = 256 * blkOf c + r.val := by
  show 1024 * (c.val / 2 % 2) + 256 * (2 * (c.val / 4) + c.val % 2) + r.val = 256 * (4 * (c.val / 2 % 2) + (2 * (c.val / 4) + c.val % 2)) + r.val
  omega

theorem rowAt_inj : Function.Injective fun x : Fin 8 × Fin 256 => rowAt x.1 x.2 := by
  rintro ⟨c, r⟩ ⟨d, q⟩ h
  have h' : 256 * blkOf c + r.val = 256 * blkOf d + q.val := (rowAt_val c r).symm.trans ((congrArg Fin.val h).trans (rowAt_val d q))
  generalize hb : blkOf c = B at h'
  generalize hb' : blkOf d = B' at h'
  have h1 := r.isLt
  have h2 := q.isLt
  exact Prod.ext (blkOf_inj c d (hb.trans (Eq.trans (by omega) hb'.symm))) (Fin.ext (by show r.val = q.val; omega))

/-- The devices' slices are the rows of the whole array, each once. -/
theorem sum_rows (g : Fin 2048 → EReal) : (∑ c : Fin 8, ∑ r : Fin 256, g (rowAt c r)) = ∑ R, g R := by
  have hb : Function.Bijective fun x : Fin 8 × Fin 256 => rowAt x.1 x.2 := by
    rw [Fintype.bijective_iff_injective_and_card]
    refine ⟨rowAt_inj, ?_⟩
    rw [Fintype.card_prod, Fintype.card_fin, Fintype.card_fin, Fintype.card_fin]
  rw [← Function.Bijective.sum_comp hb, Fintype.sum_prod_type]

end Cert.Val

end
-- ==== Proof.Val.Kernel.lean ====
module

public import proofs.«01_k».proof.Proof.Gen.KernelIdeal.Skeleton
public import proofs.«01_k».proof.Proof.Val.Row
public import Idealize.ShloMosaic.Lib.Pointwise

@[expose] public section

noncomputable section

/-! What the kernel's payloads are at an index, over the extended reals. -/

namespace Cert.Val

open Idealize.ShloMosaic
open Cert.KernelIdeal Cert.KernelIdeal.Gen

/-- The sum over the eight landed blocks. -/
theorem pay1_at (v : FVec Ideal S8x2x1024 .f32) (a : Fin 2) (b : Fin 1024) :
    k0_pay1 v (ix2 a b) = ∑ d : Fin 8, v (ix3 d a b) := by
  pointwise [k0_pay1]

/-- A device's part of the second row: its rows of the gradient, summed. -/
theorem pay4_at (y : FVec Ideal S256x1024 .f32) (b : Fin 1024) :
    k0_pay4 y (ix2 (0 : Fin 1) b) = ∑ r : Fin 256, y (ix2 r b) := by
  pointwise [k0_pay4, k0_pay2]

/-- A device's part of the first row: its rows of the gradient times the normalised rows, summed. -/
theorem pay3_at (x y : FVec Ideal S256x1024 .f32) (b : Fin 1024) :
    k0_pay3 x y (ix2 (0 : Fin 1) b) = ∑ r : Fin 256, y (ix2 r b) * hatK (fun k => x (ix2 r k)) b := by
  unfold hatK wd eps
  pointwise [k0_pay3, k0_pay2]

end Cert.Val

end
-- ==== Proof.Val.Slice.lean ====
module

public import proofs.«01_k».proof.Proof.KI.Region
public import proofs.«01_k».proof.Proof.Val.Kernel
public import Idealize.ShloMosaic.Lib.StableHlo.RunClose
public import Idealize.ShloMosaic.Lib.DynamicIndex
public import Idealize.ShloMosaic.Lib.Layout

@[expose] public section

noncomputable section

/-! The slices of the arguments that the kernel is called on. -/

namespace Cert.Val

open Idealize.ShloMosaic Idealize.ShloMosaic.TcCoe
open Cert.KernelIdeal Cert.KernelIdeal.Gen Cert.KernelIdeal.Run

variable (m : (ℓ : Loc nD τ sig) → Buf (Elt Ideal) ℓ)

/-- The first row of device `c`'s slice within its block of rows. -/
def first (c : Dev nD) : ℕ := 256 * (2 * (c.val / 4) + c.val % 2)

theorem first_le : ∀ c : Dev nD, first c + 256 ≤ 1024 := by decide

theorem slices_first (c : Dev nD) : S1024x1024.Slices ![first c, 0] S256x1024 := by
  refine ⟨rfl, fun a => ?_⟩
  have := first_le c
  fin_cases a
  · exact this
  · exact Nat.le_refl 1024

/-- The kernel's first operand is device `c`'s slice of its first argument. -/
theorem xs_slice (c : Dev nD) : xs m c = extractStridedSlice S256x1024 ![first c, 0] (m ((c.tc : Thread nD τ).loc main_arg0) : FVec Ideal S1024x1024 .f32) (slices_first c) := by
  unfold xs
  after_results_simp_entrywise
  refine Host.dynamicSlice_eq_extractStridedSlice _ _ _ _ _ (slices_first c) fun a => ?_
  fin_cases a
  · revert c; decide
  · rfl

/-- The kernel's second operand is device `c`'s slice of its second argument. -/
theorem ys_slice (c : Dev nD) : ys m c = extractStridedSlice S256x1024 ![first c, 0] (m ((c.tc : Thread nD τ).loc main_arg1) : FVec Ideal S1024x1024 .f32) (slices_first c) := by
  unfold ys
  after_results_simp_entrywise
  refine Host.dynamicSlice_eq_extractStridedSlice _ _ _ _ _ (slices_first c) fun a => ?_
  fin_cases a
  · revert c; decide
  · rfl

/-- Device `c`'s block of a whole array, sliced, is the whole array at the device's rows. -/
theorem slice_block (A : FVec Ideal S1024x1024 .f32) (G : (⟨2, ![2048, 1024]⟩ : Shape).Idx → EReal) (c : Dev nD)
    (h : A = Layout.blockN ⟨2, ![1024, 1024]⟩ ⟨2, ![2048, 1024]⟩ (Layout.meshBlock [2, 2, 2] ![[1], []] c) G) (r : Fin 256) (k : Fin 1024) :
    extractStridedSlice S256x1024 ![first c, 0] A (slices_first c) (ix2 r k) = G (ix2 (rowAt c r) k) := by
  subst h
  refine congrArg G (funext fun a => Fin.ext ?_)
  have hy : ∀ c : Dev nD, Layout.meshLin [2, 2, 2] c.val [1] = c.val / 2 % 2 := by decide
  fin_cases a
  · show Layout.meshLin [2, 2, 2] c.val [1] * 1024 + (first c + r.val) = 1024 * (c.val / 2 % 2) + 256 * (2 * (c.val / 4) + c.val % 2) + r.val
    rw [hy]; unfold first; omega
  · show 0 * 1024 + (0 + k.val) = k.val
    omega

end Cert.Val

end
-- ==== Proof.Val.Ref.lean ====
module

public import proofs.«01_k».proof.Proof.Gen.ReferenceIdeal.Run
public import proofs.«01_k».proof.Proof.Val.Row
public import Idealize.ShloMosaic.Lib.Pointwise
public import Idealize.ShloMosaic.Lib.KernelVsHost

@[expose] public section

noncomputable section

/-! What the reference's result is at an index, over the extended reals. -/

namespace Cert.Val

open Idealize.ShloMosaic Idealize.ShloMosaic.TcCoe Idealize.SL.Sem
open Cert.ReferenceIdeal Cert.ReferenceIdeal.Gen

variable (x dy : FVec Ideal S2048x1024 .f32)

/-- The column of the rows' means. -/
def refMean : FVec Ideal S2048x1 .f32 :=
  Host.divf (broadcastInDim S2048x1 ![0] bcast_S2048_S2048x1_0 (Host.reduceAdd x (constant S_ .f32 0x00000000#32) reducesTo_S2048x1024_S2048_d1 h_S_))
    (broadcastInDim S2048x1 ![] bcast_S_S2048x1 (constant S_ .f32 0x44800000#32))

/-- The array less its rows' means. -/
def refCentred : FVec Ideal S2048x1024 .f32 :=
  subf x (broadcastInDim S2048x1024 ![0, 1] bcast_S2048x1_S2048x1024_0_1 (refMean x))

/-- The divisor of the variance. -/
def refCount : FVec Ideal S_ .f32 := subf (constant S_ .f32 0x44800000#32) (sitofp .f32 (constantI S_ 32 0#32))

/-- The column of the rows' variances. -/
def refVar : FVec Ideal S2048x1 .f32 :=
  select (broadcastInDim S2048x1 ![] bcast_S_S2048x1 (cmpf .ogt refCount (constant S_ .f32 0x00000000#32)))
    (Host.divf (broadcastInDim S2048x1 ![0] bcast_S2048_S2048x1_0 (Host.reduceAdd (mulf (refCentred x) (refCentred x)) (constant S_ .f32 0x00000000#32) reducesTo_S2048x1024_S2048_d1 h_S_))
      (broadcastInDim S2048x1 ![] bcast_S_S2048x1 refCount))
    (broadcastInDim S2048x1 ![] bcast_S_S2048x1 (constant S_ .f32 0x7FC00000#32))

/-- The column of one over the root of the variance and a small number. -/
def refInv : FVec Ideal S2048x1 .f32 :=
  Host.divf (broadcastInDim S2048x1 ![] bcast_S_S2048x1 (constant S_ .f32 0x3F800000#32))
    (Host.sqrt (addf (refVar x) (broadcastInDim S2048x1 ![] bcast_S_S2048x1 (constant S_ .f32 0x3727C5AC#32))))

/-- The first row of the result. -/
def refGamma : FVec Ideal S1x1024 .f32 :=
  broadcastInDim S1x1024 ![1] bcast_S1024_S1x1024_1 (Host.reduceAdd
    (mulf dy (mulf (refCentred x) (broadcastInDim S2048x1024 ![0, 1] bcast_S2048x1_S2048x1024_0_1 (refInv x))))
    (constant S_ .f32 0x00000000#32) reducesTo_S2048x1024_S1024_d0 h_S_)

/-- The second row of the result. -/
def refBeta : FVec Ideal S1x1024 .f32 :=
  broadcastInDim S1x1024 ![1] bcast_S1024_S1x1024_1 (Host.reduceAdd dy (constant S_ .f32 0x00000000#32) reducesTo_S2048x1024_S1024_d0 h_S_)

/-- The result. -/
def refOut : FVec Ideal S2x1024 .f32 :=
  concatenate S2x1024 0 [⟨S1x1024, refGamma x dy⟩, ⟨S1x1024, refBeta dy⟩] concatenates_S1x1024_S1x1024_S2x1024_d0

theorem refMean_at (R : Fin 2048) (z : Fin 1) : refMean x (ix2 R z) = Ideal.div (∑ k : Fin 1024, x (ix2 R k)) (Ideal.ofBits .f32 0x44800000#32) := by
  pointwise [refMean]

theorem refCentred_at (R : Fin 2048) (b : Fin 1024) : refCentred x (ix2 R b) = x (ix2 R b) - refMean x (ix2 R (0 : Fin 1)) := by
  pointwise [refCentred]

theorem refCount_at (i : S_.Idx) : refCount i = Ideal.ofBits .f32 0x44800000#32 := by
  pointwise [refCount]
  rw [show (FloatOps.sitofp FTy.f32 0#32 : Ideal .f32) = (0 : EReal) from Idealize.ShloMosaic.sitofp_zero]
  exact sub_zero _

theorem refVar_at (R : Fin 2048) (z : Fin 1) : refVar x (ix2 R z) = Ideal.div (∑ k : Fin 1024, refCentred x (ix2 R k) * refCentred x (ix2 R k)) (Ideal.ofBits .f32 0x44800000#32) := by
  pointwise [refVar]
  rw [refCount_at, if_pos]
  rw [show Ideal.ofBits .f32 0x44800000#32 = ((1024 : ℝ) : EReal) from wd_eq]
  exact EReal.coe_pos.mpr (by norm_num)

theorem refInv_at (R : Fin 2048) (z : Fin 1) : refInv x (ix2 R z) = Ideal.div 1 (Ideal.sqrt (refVar x (ix2 R z) + Ideal.ofBits .f32 0x3727C5AC#32)) := by
  pointwise [refInv]

theorem refGamma_at (z : Fin 1) (b : Fin 1024) : refGamma x dy (ix2 z b) = ∑ R : Fin 2048, dy (ix2 R b) * (refCentred x (ix2 R b) * refInv x (ix2 R (0 : Fin 1))) := by
  pointwise [refGamma]

theorem refBeta_at (z : Fin 1) (b : Fin 1024) : refBeta dy (ix2 z b) = ∑ R : Fin 2048, dy (ix2 R b) := by
  pointwise [refBeta]

theorem refOut_at0 (b : Fin 1024) : refOut x dy (ix2 (0 : Fin 2) b) = refGamma x dy (ix2 (0 : Fin 1) b) := by
  pointwise [refOut]

theorem refOut_at1 (b : Fin 1024) : refOut x dy (ix2 (1 : Fin 2) b) = refBeta dy (ix2 (0 : Fin 1) b) := by
  pointwise [refOut]

/-- The reference's run leaves `refOut` of its arguments. -/
theorem ref_run (m : (ℓ : Loc nD τ sig) → Buf (Elt Ideal) ℓ) (ρ : Dev nD → PrngReg) (c : Dev nD) :
    θ_run (defs (F := Ideal)) (onTc (τ := τ) (main (F := Ideal))) ⟨m, fun _ => 0, ρ⟩ fun r =>
      r.2.mem ((c.tc : Thread nD τ).loc main_v19) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h => ⟨(h c).1, (h c).2⟩) (Cert.ReferenceIdeal.Value.run m ρ)

end Cert.Val

end
-- ==== Proof.Val.Equal.lean ====
module

public import proofs.«01_k».proof.Proof.Val.Slice
public import proofs.«01_k».proof.Proof.Val.Ref

@[expose] public section

noncomputable section

/-! The kernel's result is the reference's, where the first argument is finite. -/

namespace Cert.Val

open Idealize.ShloMosaic Idealize.ShloMosaic.TcCoe
open Cert.KernelIdeal Cert.KernelIdeal.Gen Cert.KernelIdeal.Run

/-- The reference's first row: the gradient times the normalised rows, summed over all rows. -/
theorem refGamma_hat (x dy : FVec Ideal Cert.ReferenceIdeal.S2048x1024 .f32) (b : Fin 1024) :
    refGamma x dy (ix2 (0 : Fin 1) b) = ∑ R : Fin 2048, dy (ix2 R b) * hatR (fun k => x (ix2 R k)) b := by
  rw [refGamma_at]
  refine Finset.sum_congr rfl fun R _ => ?_
  rw [refInv_at, refVar_at]
  simp only [refCentred_at, refMean_at]
  rfl

variable (m : (ℓ : Loc nD τ sig) → Buf (Elt Ideal) ℓ)

/-- The result's entry is the sum of the devices' partial blocks there. -/
theorem res_at (a : Fin 2) (b : Fin 1024) : res m (ix2 a b) = ∑ d : Fin 8, (part m d (ix2 a b) : EReal) :=
  pay1_at (commAll (part m)) a b

theorem part_at0 (d : Dev nD) (b : Fin 1024) : part m d (ix2 (0 : Fin 2) b) = k0_pay3 (xs m d) (ys m d) (ix2 (0 : Fin 1) b) := by
  unfold part partOf
  exact if_pos rfl

theorem part_at1 (d : Dev nD) (b : Fin 1024) : part m d (ix2 (1 : Fin 2) b) = k0_pay4 (ys m d) (ix2 (0 : Fin 1) b) := by
  unfold part partOf
  exact if_neg Nat.one_ne_zero

variable (x dy : FVec Ideal Cert.ReferenceIdeal.S2048x1024 .f32)

/-- From blocks of the whole arrays, the first of them finite, the kernel computes the reference's result. -/
theorem res_eq
    (h0 : ∀ c : Dev nD, m ((c.tc : Thread nD τ).loc main_arg0) = Layout.blockN ⟨2, ![1024, 1024]⟩ ⟨2, ![2048, 1024]⟩ (Layout.meshBlock [2, 2, 2] ![[1], []] c) x)
    (h1 : ∀ c : Dev nD, m ((c.tc : Thread nD τ).loc main_arg1) = Layout.blockN ⟨2, ![1024, 1024]⟩ ⟨2, ![2048, 1024]⟩ (Layout.meshBlock [2, 2, 2] ![[1], []] c) dy)
    (hfin : ∀ (c : Dev nD) (i : S1024x1024.Idx), ∃ r : ℝ, (m ((c.tc : Thread nD τ).loc main_arg0) i : EReal) = (r : EReal)) :
    res m = refOut x dy := by
  have hx : ∀ (c : Dev nD) (r : Fin 256) (k : Fin 1024), xs m c (ix2 r k) = x (ix2 (rowAt c r) k) := fun c r k => by
    rw [xs_slice]; exact slice_block _ x c (h0 c) r k
  have hy : ∀ (c : Dev nD) (r : Fin 256) (k : Fin 1024), ys m c (ix2 r k) = dy (ix2 (rowAt c r) k) := fun c r k => by
    rw [ys_slice]; exact slice_block _ dy c (h1 c) r k
  have hr : ∀ (c : Dev nD) (r : Fin 256) (k : Fin 1024), ∃ q : ℝ, (x (ix2 (rowAt c r) k) : EReal) = (q : EReal) := fun c r k => by
    rw [← hx c r k, xs_slice]; exact hfin c _
  funext i
  obtain ⟨a, b, rfl⟩ : ∃ (a : Fin 2) (b : Fin 1024), i = ix2 a b := ⟨i 0, i 1, eq_ix2 i⟩
  rw [res_at]
  fin_cases a
  · show (∑ d : Fin 8, (part m d (ix2 (0 : Fin 2) b) : EReal)) = refOut x dy (ix2 (0 : Fin 2) b)
    rw [refOut_at0, refGamma_hat, ← sum_rows]
    refine Finset.sum_congr rfl fun d _ => ?_
    rw [part_at0]
    refine (pay3_at (xs m d) (ys m d) b).trans (Finset.sum_congr rfl fun r _ => ?_)
    rw [hy, show (fun k => xs m d (ix2 r k)) = fun k => x (ix2 (rowAt d r) k) from funext fun k => hx d r k, hat_eq _ (hr d r)]
  · show (∑ d : Fin 8, (part m d (ix2 (1 : Fin 2) b) : EReal)) = refOut x dy (ix2 (1 : Fin 2) b)
    rw [refOut_at1, refBeta_at, ← sum_rows]
    refine Finset.sum_congr rfl fun d _ => ?_
    rw [part_at1]
    refine (pay4_at (ys m d) b).trans (Finset.sum_congr rfl fun r _ => ?_)
    rw [hy]

end Cert.Val

end
-- ==== Proof.lean ====
/- The proof of the certificate's claim. The runs are in Proof/K and Proof/KI, the reference's in Proof/Gen, the values in Proof/Val. -/
module

public import proofs.«01_k».proof.Defs
public import proofs.«01_k».proof.Proof.Frames
public import proofs.«01_k».proof.Proof.Val.Equal
public import proofs.«01_k».proof.Proof.Gen.ReferenceIdeal.Run
public import Idealize.ShloMosaic.Lib.ReduceAll

@[expose] public section

noncomputable section

namespace Cert.Proof

open Idealize.ShloMosaic Idealize.ShloMosaic.TcCoe Idealize.SL.Sem

/-- The shapes in the precondition fit, at one device's block. -/
theorem preFacts : Cert.Pre_finite_x_KernelIdeal.Facts where
  bcast_S_S1024x1024 := by decide
  reducesTo_S1024x1024_S_d0_1 := by decide
  h_S_ := by decide

/-- The shapes in the precondition fit, at the whole array. -/
theorem preFactsRef : Cert.Pre_finite_x_ReferenceIdeal.Facts where
  bcast_S_S2048x1024 := by decide
  reducesTo_S2048x1024_S_d0_1 := by decide
  h_S_ := by decide

/-- A comparison that answers one is met. -/
theorem lt_of_cmp {a b : EReal} (h : Ideal.cmp .olt a b = 1#1) : a < b := by
  by_contra hn
  simp [Ideal.cmp, hn] at h

/-- A memory that meets the precondition has a real at every place of each device's first argument. -/
theorem finite_of_pre (m : (ℓ : Loc Cert.KernelIdeal.nD Cert.KernelIdeal.τ Cert.KernelIdeal.sig) → Buf (Elt Ideal) ℓ)
    (h : Cert.Pre_KernelIdeal_finite_x_KernelIdeal (hPre_finite_x_KernelIdeal := preFacts) m) (c : Dev Cert.KernelIdeal.nD) (i : Cert.KernelIdeal.S1024x1024.Idx) :
    ∃ r : ℝ, (m ((c.tc : Thread Cert.KernelIdeal.nD Cert.KernelIdeal.τ).loc Cert.KernelIdeal.main_arg0) i : EReal) = (r : EReal) := by
  have h1 := congrFun (h c) (Shape.Idx.first preFacts.h_S_)
  unfold Cert.Pre_finite_x_KernelIdeal.fn at h1
  dsimp only at h1
  haveI : Subsingleton Cert.Pre_finite_x_KernelIdeal.S_.Idx := ⟨fun a b => funext fun k => k.elim0⟩
  have h2 := Host.reduce_andi_all _ _ preFacts.reducesTo_S1024x1024_S_d0_1 preFacts.h_S_ _ h1 i
  refine Cert.Val.real_of_abs _ ?_
  have h4 : Ideal.ofBits .f32 0x7F800000#32 = (⊤ : EReal) := by simp [Ideal.ofBits, Ideal.ieee]
  refine lt_of_lt_of_eq (lt_of_cmp ?_) h4
  exact h2

/-- Everything claimed of the kernel and its reference. -/
theorem claim : Cert.Claim := ⟨Cert.Kernel.Gen.facts, Cert.KernelIdeal.Gen.facts, Cert.ReferenceIdeal.Gen.facts, preFacts, preFactsRef,
  fun m g _ => frame_kernel m g, fun m g _ => frame_kernelIdeal m g, fun m g _ => frame_kernelIdeal m g,
  fun m g _ => frame_reference m g, fun m g _ => frame_reference m g, trivial,
  fun m g m' g' hp h => by
    have e := Cert.Val.res_eq m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (fun c => (h c).1) (fun c => (h c).2.1) (finite_of_pre m hp)
    exact ⟨_, (θ_run _ _ _).mono (fun _ hr c => ⟨(hr.1 c).1.trans e, (hr.1 c).2⟩) (Cert.KernelIdeal.Run.run_main m g), Cert.Val.ref_run m' g' 0⟩⟩

end Cert.Proof

end
